-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "fifteenth" .f32 0x3D888889#32 ((15⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x2048x2048 : Shape := ⟨3, ![1, 2048, 2048]⟩
abbrev S2048x2048 : Shape := ⟨2, ![2048, 2048]⟩
abbrev S2048 : Shape := ⟨1, ![2048]⟩
abbrev S16 : Shape := ⟨1, ![16]⟩
abbrev S_ : Shape := ⟨0, ![]⟩
abbrev S1 : Shape := ⟨1, ![1]⟩

class Facts : Prop where
  bcast_S_S16 : S_.BroadcastsInDim S16 (![] : Fin 0 → Fin S16.rank)
  slices_S16_S1_0 : S16.Slices ![0] S1
  shapeCasts_S1_S_ : S1.ShapeCasts S_
  slices_S16_S1_15 : S16.Slices ![15] S1
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_v34 : IVec S16 1) (main_v38 : IVec S_ 1) : IVec S16 1 :=
  let main_v39 : IVec S16 1 := broadcastInDim S16 ![] bcast_S_S16 main_v38
  let main_v40 : IVec S16 1 := andi main_v34 main_v39
  main_v40

def fn_part1 {F : FTy → Type} [FloatOps F] (main_arg0 : FVec F S1x2048x2048 .f32) (main_arg1 : FVec F S2048x2048 .f32) (main_arg3 : FVec F S16 .f32) (main_v15 : IVec S16 1) (main_v18 : IVec S_ 1) (main_v20 : FVec F S_ .f32) : IVec S16 1 :=
  let main_cst_2 : FVec F S_ .f32 := constant S_ .f32 0x3F800000#32
  let main_v21 : IVec S_ 1 := cmpf .oge main_v20 main_cst_2
  let main_v22 : IVec S_ 1 := andi main_v18 main_v21
  let main_v23 : IVec S16 1 := broadcastInDim S16 ![] bcast_S_S16 main_v22
  let main_v24 : IVec S16 1 := andi main_v15 main_v23
  let main_v25 : FVec F S16 .f32 := Host.absf main_arg3
  let main_cst_3 : FVec F S_ .f32 := constant S_ .f32 0x7F800000#32
  let main_v26 : FVec F S16 .f32 := broadcastInDim S16 ![] bcast_S_S16 main_cst_3
  let main_v27 : IVec S16 1 := cmpf .olt main_v25 main_v26
  let main_v28 : IVec S16 1 := andi main_v24 main_v27
  let main_v29 : FVec F S1x2048x2048 .f32 := Host.absf main_arg0
  let main_cst_4 : FVec F S_ .f32 := constant S_ .f32 0x7F800000#32
  let main_v30 : FVec F S1x2048x2048 .f32 := broadcastInDim S1x2048x2048 ![] bcast_S_S1x2048x2048 main_cst_4
  let main_v31 : IVec S1x2048x2048 1 := cmpf .olt main_v29 main_v30
  let main_c : IVec S_ 1 := constantI S_ 1 1#1
  let main_v32 : IVec S_ 1 := (fun x v => Host.reduce IntOp.andi x v reducesTo_S1x2048x2048_S_d0_1_2 h_S_) main_v31 main_c
  let main_v33 : IVec S16 1 := broadcastInDim S16 ![] bcast_S_S16 main_v32
  let main_v34 : IVec S16 1 := andi main_v28 main_v33
  let main_v35 : FVec F S2048x2048 .f32 := Host.absf main_arg1
  let main_cst_5 : FVec F S_ .f32 := constant S_ .f32 0x7F800000#32
  let main_v36 : FVec F S2048x2048 .f32 := broadcastInDim S2048x2048 ![] bcast_S_S2048x2048 main_cst_5
  let main_v37 : IVec S2048x2048 1 := cmpf .olt main_v35 main_v36
  let main_c_6 : IVec S_ 1 := constantI S_ 1 1#1
  let main_v38 : IVec S_ 1 := (fun x v => Host.reduce IntOp.andi x v reducesTo_S2048x2048_S_d0_1 h_S_) main_v37 main_c_6
  fn_part2 (F := F) main_v34 main_v38

def fn {F : FTy → Type} [FloatOps F] (main_arg0 : FVec F S1x2048x2048 .f32) (main_arg1 : FVec F S2048x2048 .f32) (main_arg2 : FVec F S2048 .f32) (main_arg3 : FVec F S16 .f32) : IVec S16 1 :=
  let main_v0 : IVec S16 32 := iotaInDim S16 32 0
  let main_v1 : FVec F S16 .f32 := sitofp .f32 main_v0
  let main_cst : FVec F S_ .f32 := constant S_ .f32 0x41700000#32
  let main_v2 : FVec F S16 .f32 := broadcastInDim S16 ![] bcast_S_S16 main_cst
  let main_v3 : FVec F S16 .f32 := mulf main_v2 main_arg3
  let main_cst_0 : FVec F S_ .f32 := constant S_ .f32 0x41700000#32
  let main_v4 : FVec F S16 .f32 := broadcastInDim S16 ![] bcast_S_S16 main_cst_0
  let main_v5 : FVec F S16 .f32 := subf main_v4 main_v1
  let main_v6 : FVec F S1 .f32 := (extractStridedSlice S1 ![0] · slices_S16_S1_0) main_arg3
  let main_v7 : FVec F S_ .f32 := shapeCast S_ main_v6 shapeCasts_S1_S_
  let main_v8 : FVec F S16 .f32 := broadcastInDim S16 ![] bcast_S_S16 main_v7
  let main_v9 : FVec F S16 .f32 := mulf main_v5 main_v8
  let main_v10 : FVec F S1 .f32 := (extractStridedSlice S1 ![15] · slices_S16_S1_15) main_arg3
  let main_v11 : FVec F S_ .f32 := shapeCast S_ main_v10 shapeCasts_S1_S_
  let main_v12 : FVec F S16 .f32 := broadcastInDim S16 ![] bcast_S_S16 main_v11
  let main_v13 : FVec F S16 .f32 := mulf main_v1 main_v12
  let main_v14 : FVec F S16 .f32 := addf main_v9 main_v13
  let main_v15 : IVec S16 1 := cmpf .oeq main_v3 main_v14
  let main_v16 : FVec F S1 .f32 := (extractStridedSlice S1 ![0] · slices_S16_S1_0) main_arg3
  let main_v17 : FVec F S_ .f32 := shapeCast S_ main_v16 shapeCasts_S1_S_
  let main_cst_1 : FVec F S_ .f32 := constant S_ .f32 0xBF800000#32
  let main_v18 : IVec S_ 1 := cmpf .ole main_v17 main_cst_1
  let main_v19 : FVec F S1 .f32 := (extractStridedSlice S1 ![15] · slices_S16_S1_15) main_arg3
  let main_v20 : FVec F S_ .f32 := shapeCast S_ main_v19 shapeCasts_S1_S_
  fn_part1 (F := F) main_arg0 main_arg1 main_arg3 main_v15 main_v18 main_v20
-- ==== Kernel.lean ====
abbrev S1x2048x2048 : Shape := ⟨3, ![1, 2048, 2048]⟩
abbrev S2048x2048 : Shape := ⟨2, ![2048, 2048]⟩
abbrev S2048 : Shape := ⟨1, ![2048]⟩
abbrev S16 : Shape := ⟨1, ![16]⟩
abbrev S8x256x2048 : Shape := ⟨3, ![8, 256, 2048]⟩
abbrev S1x2048 : Shape := ⟨2, ![1, 2048]⟩
abbrev S1x256x2048 : Shape := ⟨3, ![1, 256, 2048]⟩
abbrev S2048x256 : Shape := ⟨2, ![2048, 256]⟩
abbrev S1x256 : Shape := ⟨2, ![1, 256]⟩
abbrev S256x2048 : Shape := ⟨2, ![256, 2048]⟩
abbrev S256x256 : Shape := ⟨2, ![256, 256]⟩
abbrev S256 : Shape := ⟨1, ![256]⟩
abbrev S1 : Shape := ⟨1, ![1]⟩

abbrev nBuf : Space → Nat
  | .hbm => 9
  | .vmem => 14
  | .smem => 1
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S16, .f32⟩
  | .hbm, ⟨4, _⟩ => ⟨S2048x2048, .f32⟩
  | .hbm, ⟨5, _⟩ => ⟨S8x256x2048, .f32⟩
  | .hbm, ⟨6, _⟩ => ⟨S1x2048, .f32⟩
  | .hbm, ⟨7, _⟩ => ⟨S2048x2048, .f32⟩
  | .hbm, ⟨8, _⟩ => ⟨S1x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S2048x256, .f32⟩
  | .local _ .vmem, ⟨9, _⟩ => ⟨S2048x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .smem, ⟨0, _⟩ => ⟨S16, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg10_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .smem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "fifteenth" => some ((15⁻¹ : ℝ) : EReal)
  | _ => none
-- ==== ReferenceIdeal.lean ====
abbrev S1x2048x2048 : Shape := ⟨3, ![1, 2048, 2048]⟩
abbrev S2048x2048 : Shape := ⟨2, ![2048, 2048]⟩
abbrev S2048 : Shape := ⟨1, ![2048]⟩
abbrev S16 : Shape := ⟨1, ![16]⟩
abbrev S_ : Shape := ⟨0, ![]⟩
abbrev S1x2048 : Shape := ⟨2, ![1, 2048]⟩
abbrev S4194304 : Shape := ⟨1, ![4194304]⟩
abbrev S1x4194304 : Shape := ⟨2, ![1, 4194304]⟩
abbrev S16x1 : Shape := ⟨2, ![16, 1]⟩
abbrev S16x4194304 : Shape := ⟨2, ![16, 4194304]⟩
abbrev S4194304x1 : Shape := ⟨2, ![4194304, 1]⟩
abbrev S1 : Shape := ⟨1, ![1]⟩
abbrev S1x1 : Shape := ⟨2, ![1, 1]⟩
abbrev S1x1x2048 : Shape := ⟨3, ![1, 1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S16, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S4194304, .f32⟩
  | .hbm, ⟨29, _⟩ => ⟨S1x4194304, .f32⟩
  | .hbm, ⟨30, _⟩ => ⟨S16x1, .f32⟩
  | .hbm, ⟨31, _⟩ => ⟨S16x4194304, .f32⟩
  | .hbm, ⟨32, _⟩ => ⟨S16x4194304, .f32⟩
  | .hbm, ⟨33, _⟩ => ⟨S16x4194304, .f32⟩
  | .hbm, ⟨34, _⟩ => ⟨S16x4194304, .f32⟩
  | .hbm, ⟨35, _⟩ => ⟨S16x4194304, .i32⟩
  | .hbm, ⟨36, _⟩ => ⟨S_, .f32⟩
  | .hbm, ⟨37, _⟩ => ⟨S_, .i32⟩
  | .hbm, ⟨38, _⟩ => ⟨S4194304, .f32⟩
  | .hbm, ⟨39, _⟩ => ⟨S4194304, .i32⟩
  | .hbm, ⟨40, _⟩ => ⟨S_, .i32⟩
  | .hbm, ⟨41, _⟩ => ⟨S4194304, .i32⟩
  | .hbm, ⟨42, _⟩ => ⟨S4194304, .i1⟩
  | .hbm, ⟨43, _⟩ => ⟨S_, .i32⟩
  | .hbm, ⟨44, _⟩ => ⟨S4194304, .i32⟩
  | .hbm, ⟨45, _⟩ => ⟨S4194304, .i32⟩
  | .hbm, ⟨46, _⟩ => ⟨S4194304, .i32⟩
  | .hbm, ⟨47, _⟩ => ⟨S4194304x1, .i32⟩
  | .hbm, ⟨48, _⟩ => ⟨S1, .i32⟩
  | .hbm, ⟨49, _⟩ => ⟨S_, .i32⟩
  | .hbm, ⟨50, _⟩ => ⟨S4194304x1, .i32⟩
  | .hbm, ⟨51, _⟩ => ⟨S4194304x1, .i1⟩
  | .hbm, ⟨52, _⟩ => ⟨S1x1, .i32⟩
  | .hbm, ⟨53, _⟩ => ⟨S4194304x1, .i32⟩
  | .hbm, ⟨54, _⟩ => ⟨S4194304x1, .i1⟩
  | .hbm, ⟨55, _⟩ => ⟨S4194304x1, .i1⟩
  | .hbm, ⟨56, _⟩ => ⟨S_, .i1⟩
  | .hbm, ⟨57, _⟩ => ⟨S4194304, .i1⟩
  | .hbm, ⟨58, _⟩ => ⟨S4194304, .f32⟩
  | .hbm, ⟨59, _⟩ => ⟨S_, .f32⟩
  | .hbm, ⟨60, _⟩ => ⟨S4194304, .f32⟩
  | .hbm, ⟨61, _⟩ => ⟨S4194304, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S2048x2048, .i1⟩
  | .hbm, ⟨71, _⟩ => ⟨S_, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048x2048, .f32⟩
  | .hbm, ⟨76, _⟩ => ⟨S2048x2048, .i1⟩
  | .hbm, ⟨77, _⟩ => ⟨S_, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048x2048, .f32⟩
  | .hbm, ⟨82, _⟩ => ⟨S2048x2048, .i1⟩
  | .hbm, ⟨83, _⟩ => ⟨S_, .f32⟩
  | .hbm, ⟨84, _⟩ => ⟨S2048x2048, .f32⟩
  | .hbm, ⟨85, _⟩ => ⟨S2048x2048, .f32⟩
  | .hbm, ⟨86, _⟩ => ⟨S1x2048x2048, .f32⟩
  | .hbm, ⟨87, _⟩ => ⟨S1x1x2048, .f32⟩
  | .hbm, ⟨88, _⟩ => ⟨S1x2048x2048, .f32⟩
  | .hbm, ⟨89, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_call1_cst : Ref sig .tc := ⟨.hbm, 36, rfl⟩
abbrev main_call1_c : Ref sig .tc := ⟨.hbm, 37, rfl⟩
abbrev main_call1_v1_0 : Ref sig .tc := ⟨.hbm, 38, rfl⟩
abbrev main_v24 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_4 : Ref sig .tc := ⟨.hbm, 67, rfl⟩
abbrev main_cst_5 : Ref sig .tc := ⟨.hbm, 68, rfl⟩
abbrev main_cst_6 : Ref sig .tc := ⟨.hbm, 69, rfl⟩
abbrev main_call3_v0 : Ref sig .tc := ⟨.hbm, 70, rfl⟩
abbrev main_call3_v1 : Ref sig .tc := ⟨.hbm, 71, rfl⟩
abbrev main_call3_call0_v0 : Ref sig .tc := ⟨.hbm, 72, rfl⟩
abbrev main_call3_v2 : Ref sig .tc := ⟨.hbm, 73, rfl⟩
abbrev main_call3_cst : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_call1_v0 : Ref sig .tc := ⟨.hbm, 78, rfl⟩
abbrev main_call3_v6 : Ref sig .tc := ⟨.hbm, 79, rfl⟩
abbrev main_call3_cst_0 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_call2_v0 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩

abbrev nD : Nat := 1
abbrev τ : Topo := Topo.v7x

variable {F : FTy → Type} [FloatOps F]
-- ==== Proof.Frames.lean ====
/- The claims about running: each program ends, faults nowhere, leaves its arguments as they were and its semaphore counters
   at zero; and the one named constant of the idealized kernel stands for the literal that the kernel prints. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_tame
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel at the machine's floats runs to its end with its arguments unchanged and its counters at zero. -/
theorem frame_kernel : Cert.quiescent_Kernel := by
  intro m ρ _
  exact Cert.Kernel.Gen.frame m ρ

/-- The idealized kernel runs to its end with its arguments unchanged and its counters at zero. -/
theorem frame_ideal : Cert.quiescent_KernelIdeal := by
  intro m ρ _
  exact Cert.KernelIdeal.Gen.frame m ρ

/-- The same from any memory that meets the precondition. -/
theorem frame_ideal_tame : Cert.quiescent_KernelIdeal_pre_tame := by
  intro m ρ _
  exact Cert.KernelIdeal.Gen.frame m ρ

/-- The reference runs to its end with its arguments unchanged; it declares no semaphore, so no counter can move. -/
theorem frame_ref : Cert.quiescent_ReferenceIdeal := by
  intro m ρ _
  hlo_run
  · exact fun _ => ⟨trivial, trivial, trivial, trivial⟩
  · exact sem_eq_zero_of_no_sems (sig := Cert.ReferenceIdeal.sig) (by decide) _

/-- The same from any memory that meets the precondition. -/
theorem frame_ref_tame : Cert.quiescent_ReferenceIdeal_pre_tame := by
  intro m ρ _
  exact frame_ref m ρ trivial

/-- The literal one fifteenth that the kernel prints is the word that the named constant carries. -/
theorem preserves : Cert.preserves_Kernel_KernelIdeal :=
  IdealRules.named_const.statement Cert.KernelIdeal.κ "fifteenth" .f32 0x3D888889#32 ((15⁻¹ : ℝ) : EReal) rfl

end Cert.Proof

end
-- ==== Proof.Block.lean ====
/- The values that one grid point of the kernel computes, entry by entry, from its blocks of the arguments. -/
module

public import proofs.«01_k».proof.Proof.Gen.KernelIdeal.Skeleton
public import Idealize.ShloMosaic.Lib.Pointwise

@[expose] public section

set_option maxRecDepth 16384

noncomputable section

namespace Cert.Proof.Block

open Idealize.ShloMosaic Idealize.SL.Sem Cert.KernelIdeal Cert.KernelIdeal.Gen

/-- One row block's product with the weights' column block. -/
def slab (x : Vec Ideal S1x256x2048 .f32) (w : Vec Ideal S2048x256 .f32) : FVec Ideal S256x256 .f32 := k0_pay5 x w

/-- An entry of such a product. -/
theorem slab_at (x : Vec Ideal S1x256x2048 .f32) (w : Vec Ideal S2048x256 .f32) (p q : Fin 256) :
    slab x w (ix2 p q) = ∑ k : Fin 2048, x (ix3 0 p k) * w (ix2 k q) := by
  pointwise [slab, k0_pay5]

/-- A property of all 2048 rows, row block by row block. -/
theorem forall_rows (P : Fin 2048 → Prop) : (∀ r, P r) ↔ ∀ (i : Fin 8) (p : Fin 256), P ⟨256 * i + p, by omega⟩ := by
  refine ⟨fun h i p => h _, fun h r => ?_⟩
  have := h ⟨r / 256, by omega⟩ ⟨r % 256, by omega⟩
  have e : (⟨256 * (r / 256) + r % 256, by omega⟩ : Fin 2048) = r := Fin.ext (by dsimp only; omega)
  exact e ▸ this

/-- A property of eight things, one by one. -/
theorem forall_eight (P : Fin 8 → Prop) :
    (∀ i, P i) ↔ ((((((P 0 ∧ P 1) ∧ P 2) ∧ P 3) ∧ P 4) ∧ P 5) ∧ P 6) ∧ P 7 := by
  constructor
  · exact fun h => ⟨⟨⟨⟨⟨⟨⟨h 0, h 1⟩, h 2⟩, h 3⟩, h 4⟩, h 5⟩, h 6⟩, h 7⟩
  · rintro ⟨⟨⟨⟨⟨⟨⟨h0, h1⟩, h2⟩, h3⟩, h4⟩, h5⟩, h6⟩, h7⟩ i
    match i with
    | 0 => exact h0
    | 1 => exact h1
    | 2 => exact h2
    | 3 => exact h3
    | 4 => exact h4
    | 5 => exact h5
    | 6 => exact h6
    | 7 => exact h7

/-- The largest of the eight row blocks' column maxima is the largest entry of the whole column `O`. -/
theorem top_at (o : Fin 8 → FVec Ideal S256x256 .f32) (q : Fin 256) (O : Fin 2048 → EReal)
    (h : ∀ (i : Fin 8) (p : Fin 256), o i (ix2 p q) = O ⟨256 * i + p, by omega⟩)
    (v21 v22 cst v24 v26 v28 v30) (h5 : k0_pay11 v21 v22 cst = o 5) (h6 : k0_pay12 v24 v26 = o 6) (h7 : k0_pay13 v28 v30 = o 7) :
    k0_pay14 (o 0) (o 1) (o 2) (o 3) (o 4) v21 v22 cst v24 v26 v28 v30 (ix2 0 q) = Finset.univ.fold max ⊥ O := by
  have hb : Ideal.ofBits .f32 4286578688#32 = ⊥ := by simp [Ideal.ofBits, Ideal.ieee]
  unfold k0_pay14
  rw [h5, h6, h7]
  pointwise
  refine eq_of_forall_ge_iff fun c => ?_
  simp only [max_le_iff, Finset.fold_max_le, hb, bot_le, true_and, Finset.mem_univ, forall_true_left]
  rw [forall_rows, forall_eight]
  simp only [h]

/-- The row of the eight row blocks' least entries, column by column. -/
def bottomRow (o : Fin 8 → FVec Ideal S256x256 .f32) : FVec Ideal S1x256 .f32 :=
  k0_pay18 (o 3) (o 4) (o 5) (o 6) (o 7) (k0_pay15 (o 0)) (k0_pay16 (o 1)) (k0_pay17 (o 2))

/-- The least of the eight row blocks' column minima is the least entry of the whole column `O`. -/
theorem bottom_at (o : Fin 8 → FVec Ideal S256x256 .f32) (q : Fin 256) (O : Fin 2048 → EReal)
    (h : ∀ (i : Fin 8) (p : Fin 256), o i (ix2 p q) = O ⟨256 * i + p, by omega⟩) :
    bottomRow o (ix2 0 q) = Finset.univ.fold min ⊤ O := by
  have hb : Ideal.ofBits .f32 2139095040#32 = ⊤ := by simp [Ideal.ofBits, Ideal.ieee]
  unfold bottomRow
  pointwise [k0_pay18, k0_pay15, k0_pay16, k0_pay17]
  refine eq_of_forall_le_iff fun c => ?_
  simp only [le_min_iff, Finset.le_fold_min, hb, le_top, true_and, Finset.mem_univ, forall_true_left]
  rw [forall_rows, forall_eight]
  simp only [h]

/-- The midpoint of a column's extremes `M` and `m`, as the kernel computes it. -/
def offset (M m : EReal) : EReal := (M + m) * Ideal.ofBits .f32 0x3F000000#32

/-- Half the distance of a column's extremes. -/
def range (M m : EReal) : EReal := (M - m) * Ideal.ofBits .f32 0x3F000000#32

/-- One over that half distance or the small literal. -/
def recip (M m : EReal) : EReal := Ideal.div (Ideal.ofBits .f32 0x3F800000#32) (max (range M m) (Ideal.ofBits .f32 0x322BCC77#32))

/-- Fifteen over the distance of the outermost poles. -/
def inverse (lo hi : EReal) : EReal := Ideal.div (Ideal.ofBits .f32 0x41700000#32) (hi - lo)

/-- The kernel's value at an entry `o` of a column with the extremes `M` and `m`, the outermost poles `lo` and `hi` and the bias `b`. -/
def entry (o M m lo hi b : EReal) : EReal :=
  Ideal.liftRound Int.ceil (o * (recip M m * inverse lo hi)
      + (((Ideal.ofBits .f32 0x00000000#32 - offset M m) * recip M m - lo) * inverse lo hi - Ideal.ofBits .f32 0x3F000000#32))
    * (((hi - lo) * ((15⁻¹ : ℝ) : EReal)) * range M m) + ((lo * range M m + offset M m) + b)

/-- The block that the kernel stores for the row block's product `v`, the eight products being `o` and the row of maxima `T`. -/
def stored (v : FVec Ideal S256x256 .f32) (o : Fin 8 → FVec Ideal S256x256 .f32) (T : FVec Ideal S1x256 .f32)
    (lo hi : Ideal .f32) (b : Vec Ideal S1x256 .f32) : FVec Ideal S256x256 .f32 :=
  k0_pay28 v (k0_pay19 (o 3) (o 4) (o 5) (o 6) (o 7) T (k0_pay15 (o 0)) (k0_pay16 (o 1)) (k0_pay17 (o 2)))
    (k0_pay20 (o 3) (o 4) (o 5) (o 6) (o 7) T (k0_pay15 (o 0)) (k0_pay16 (o 1)) (k0_pay17 (o 2))) lo (k0_pay22 lo hi)
    (k0_pay24 (o 3) (o 4) (o 5) (o 6) (o 7) T (k0_pay15 (o 0)) (k0_pay16 (o 1)) (k0_pay17 (o 2)) lo hi)
    (k0_pay25 (o 3) (o 4) (o 5) (o 6) (o 7) T (k0_pay15 (o 0)) (k0_pay16 (o 1)) (k0_pay17 (o 2)) lo hi) b

/-- An entry of that block. -/
theorem stored_at (v : FVec Ideal S256x256 .f32) (o : Fin 8 → FVec Ideal S256x256 .f32) (T : FVec Ideal S1x256 .f32)
    (lo hi : Ideal .f32) (b : Vec Ideal S1x256 .f32) (p q : Fin 256) :
    stored v o T lo hi b (ix2 p q) = entry (v (ix2 p q)) (T (ix2 0 q)) (bottomRow o (ix2 0 q)) lo hi (b (ix2 0 q)) := by
  have hk : Named.named (F := Ideal) κ "fifteenth" (φ := .f32) 1032358025#32 = ((15⁻¹ : ℝ) : EReal) := rfl
  unfold stored bottomRow
  pointwise [k0_pay28, k0_pay27, k0_pay26, k0_pay25, k0_pay24, k0_pay22, k0_pay23, k0_pay21, k0_pay20, k0_pay19, entry, offset, range, recip, inverse]
  rw [hk]

end Cert.Proof.Block

end
-- ==== Proof.Point.lean ====
/- What one grid point's run leaves in the staging buffer of the result. -/
module

public import proofs.«01_k».proof.Proof.Gen.KernelIdeal.Frame
public import proofs.«01_k».proof.Proof.Block
public import Idealize.ShloMosaic.Lib.Pipeline.Value

@[expose] public section

set_option maxRecDepth 16384

noncomputable section

namespace Cert.Proof.Block

open Idealize.ShloMosaic Idealize.ShloMosaic.TcCoe Idealize.SL.Sem Cert.KernelIdeal Cert.KernelIdeal.Gen

section Reads

variable {κ' : Kind} {sp : Space}

/-- A whole buffer read whole gives what it holds, for a row block of the activations, -/
theorem read_x {m : Memref sig κ' sp S1x256x2048 .f32} (h : m.IsWhole) (x : Vec Ideal S1x256x2048 .f32) :
    View.readAt (Elt Ideal) m.view (Rect.unit (s := S1x256x2048) ![0, 0, 0] ![1, 256, 2048] inb_S1x256x2048_S1x256x2048_0_0_0).toLoadRect
      (h.unread x) = x := by
  rw [View.readAt_eq_ld, h.read_unread]
  exact View.ld_unit_zero (S := S1x256x2048) (by funext a; fin_cases a <;> rfl) _ x

/-- for a column block of the weights, -/
theorem read_w {m : Memref sig κ' sp S2048x256 .f32} (h : m.IsWhole) (x : Vec Ideal S2048x256 .f32) :
    View.readAt (Elt Ideal) m.view (Rect.unit (s := S2048x256) ![0, 0] ![2048, 256] inb_S2048x256_S2048x256_0_0).toLoadRect
      (h.unread x) = x := by
  rw [View.readAt_eq_ld, h.read_unread]
  exact View.ld_unit_zero (S := S2048x256) (by funext a; fin_cases a <;> rfl) _ x

/-- and for a block of the bias. -/
theorem read_b {m : Memref sig κ' sp S1x256 .f32} (h : m.IsWhole) (x : Vec Ideal S1x256 .f32) :
    View.readAt (Elt Ideal) m.view (Rect.unit (s := S1x256) ![0, 0] ![1, 256] inb_S1x256_S1x256_0_0).toLoadRect
      (h.unread x) = x := by
  rw [View.readAt_eq_ld, h.read_unread]
  exact View.ld_unit_zero (S := S1x256) (by funext a; fin_cases a <;> rfl) _ x

/-- The first pole -/
theorem read_lo {m : Memref sig κ' sp S16 .f32} (h : m.IsWhole) (x : Vec Ideal S16 .f32) (hp) :
    View.readAt (Elt Ideal) m.view (Rect.unit (s := S16) ![0] ![1] inb_S16_S1_0).toLoadRect
      (h.unread x) (Shape.Idx.first (s := S1) hp) = x (ix1 0) := by
  rw [View.readAt_eq_ld, h.read_unread]
  exact congrArg x (by funext a; fin_cases a; rfl)

/-- and the last. -/
theorem read_hi {m : Memref sig κ' sp S16 .f32} (h : m.IsWhole) (x : Vec Ideal S16 .f32) (hp) :
    View.readAt (Elt Ideal) m.view (Rect.unit (s := S16) ![15] ![1] inb_S16_S1_15).toLoadRect
      (h.unread x) (Shape.Idx.first (s := S1) hp) = x (ix1 15) := by
  rw [View.readAt_eq_ld, h.read_unread]
  exact congrArg x (by funext a; fin_cases a; rfl)

end Reads

/-- The eight row blocks' products with the weights' column block. -/
def slabs (X : Fin 8 → Vec Ideal S1x256x2048 .f32) (w : Vec Ideal S2048x256 .f32) (i : Fin 8) : FVec Ideal S256x256 .f32 := slab (X i) w

/-- The row of their column maxima, as the run computes it. -/
def topRow (X : Fin 8 → Vec Ideal S1x256x2048 .f32) (w : Vec Ideal S2048x256 .f32) : FVec Ideal S1x256 .f32 :=
  k0_pay14 (slabs X w 0) (slabs X w 1) (slabs X w 2) (slabs X w 3) (slabs X w 4) (k0_pay10 (X 5)) w (constant S256x256 .f32 0x00000000#32)
    (X 6) w (X 7) w

/-- What the run stores for row block `i`. -/
def block (X : Fin 8 → Vec Ideal S1x256x2048 .f32) (w : Vec Ideal S2048x256 .f32) (b : Vec Ideal S1x256 .f32) (lut : Vec Ideal S16 .f32)
    (i : Fin 8) : FVec Ideal S256x256 .f32 :=
  stored (slabs X w i) (slabs X w) (topRow X w) (lut (ix1 0)) (lut (ix1 15)) b

/-- Row `256 i + x 0` of the buffer is row `x 0` of row block `i`. -/
theorem block_row (X : Fin 8 → Vec Ideal S1x256x2048 .f32) (w : Vec Ideal S2048x256 .f32) (b : Vec Ideal S1x256 .f32) (lut : Vec Ideal S16 .f32)
    (i : Fin 8) (x : S256x256.Idx) (y : S2048x256.Idx) (h0 : (y 0 : ℕ) = 256 * i + x 0) (h1 : (y 1 : ℕ) = x 1) :
    block X w b lut i x
      = block X w b lut ⟨(y 0 : ℕ) / 256, Nat.div_lt_of_lt_mul (y 0).isLt⟩ (ix2 ⟨(y 0 : ℕ) % 256, Nat.mod_lt _ (by decide)⟩ (y 1)) := by
  have hx : (x 0 : ℕ) < 256 := (x 0).isLt
  have e : (⟨(y 0 : ℕ) / 256, Nat.div_lt_of_lt_mul (y 0).isLt⟩ : Fin 8) = i := Fin.ext (by dsimp only; omega)
  rw [e]
  congr 1
  funext a
  match a with
  | 0 => exact Fin.ext (by show (x 0 : ℕ) = (y 0 : ℕ) % 256; omega)
  | 1 => exact Fin.ext h1.symm

/-- The staging buffer after the run: row block `i` holds `block … i`. -/
theorem out_eq (c : Dev nD) (i : grid0.Coords) (arg1 : Memref sig .tc .vmem S1x256x2048 .f32) (harg1 : arg1.IsWhole) (arg2 : Memref sig .tc .vmem S1x256x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S2048x256 .f32) (harg9 : arg9.IsWhole) (arg10 : Memref sig .tc .vmem S1x256 .f32) (harg10 : arg10.IsWhole)
    (arg11 : Memref sig .tc .smem S16 .f32) (harg11 : arg11.IsWhole) (arg12 : Memref sig .tc .vmem S2048x256 .f32) (harg12 : arg12.IsWhole)
    (X : Fin 8 → Vec Ideal S1x256x2048 .f32) (w : Vec Ideal S2048x256 .f32) (b : Vec Ideal S1x256 .f32) (lut : Vec Ideal S16 .f32) (y : S2048x256.Idx) :
    out0_A_11 c i arg1 harg1 arg2 harg2 arg3 harg3 arg4 harg4 arg5 harg5 arg6 harg6 arg7 harg7 arg8 harg8 arg9 harg9 arg10 harg10 arg11 harg11 arg12 harg12 (X 0) (X 1) (X 2) (X 3) (X 4) (X 5) (X 6) (X 7) w b lut y
      = block X w b lut ⟨(y 0 : ℕ) / 256, Nat.div_lt_of_lt_mul (y 0).isLt⟩ (ix2 ⟨(y 0 : ℕ) % 256, Nat.mod_lt _ (by decide)⟩ (y 1)) := by
  have hc := cover0_A_11 c i arg1 harg1 arg2 harg2 arg3 harg3 arg4 harg4 arg5 harg5 arg6 harg6 arg7 harg7 arg8 harg8 arg9 harg9 arg10 harg10 arg11 harg11 arg12 harg12 (X 0) (X 1) (X 2) (X 3) (X 4) (X 5) (X 6) (X 7) w b lut y
  unfold out0_A_11
  refine View.read_writes_apply_of_pieces _ _ (fun y : S2048x256.Idx => block X w b lut ⟨(y 0 : ℕ) / 256, Nat.div_lt_of_lt_mul (y 0).isLt⟩ (ix2 ⟨(y 0 : ℕ) % 256, Nat.mod_lt _ (by decide)⟩ (y 1))) _ (fun p hp x => ?_) y hc
  unfold kernelRun0_A at hp
  dsimp only at hp
  clear hc
  simp only [List.mem_cons, List.mem_nil_iff, or_false, kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9, kernelRun0_A.sl.r_10, kernelRun0_A.sl.r_11,
    kernelRun0_A.sl.r_12, kernelRun0_A.sl.r_13, kernelRun0_A.sl.r_14, kernelRun0_A.sl.r_15, kernelRun0_A.sl.r_16, kernelRun0_A.sl.r_17, kernelRun0_A.sl.r_18,
    kernelRun0_A.sl.r_19, kernelRun0_A.sl.r_20, kernelRun0_A.sl.r_21, kernelRun0_A.sl.r_22, kernelRun0_A.sl.r_23,
    read_x, read_w, read_b, read_lo, read_hi, kernelRun0_A.sl.cst_33] at hp
  rcases hp with rfl | rfl | rfl | rfl | rfl | rfl | rfl | rfl
  · exact block_row X w b lut 7 x _ (by simp [Rect.emb_apply]) (by simp [Rect.emb_apply])
  · exact block_row X w b lut 6 x _ (by simp [Rect.emb_apply]) (by simp [Rect.emb_apply])
  · exact block_row X w b lut 5 x _ (by simp [Rect.emb_apply]) (by simp [Rect.emb_apply])
  · exact block_row X w b lut 4 x _ (by simp [Rect.emb_apply]) (by simp [Rect.emb_apply])
  · exact block_row X w b lut 3 x _ (by simp [Rect.emb_apply]) (by simp [Rect.emb_apply])
  · exact block_row X w b lut 2 x _ (by simp [Rect.emb_apply]) (by simp [Rect.emb_apply])
  · exact block_row X w b lut 1 x _ (by simp [Rect.emb_apply]) (by simp [Rect.emb_apply])
  · exact block_row X w b lut 0 x _ (by simp [Rect.emb_apply]) (by simp [Rect.emb_apply])

/-- An entry of row block `i` as the run stores it: the kernel's value of the entry in its column `O` of the product. -/
theorem block_at (X : Fin 8 → Vec Ideal S1x256x2048 .f32) (w : Vec Ideal S2048x256 .f32) (b : Vec Ideal S1x256 .f32) (lut : Vec Ideal S16 .f32)
    (i : Fin 8) (p q : Fin 256) (O : Fin 2048 → EReal)
    (h : ∀ (i : Fin 8) (p : Fin 256), ∑ k : Fin 2048, X i (ix3 0 p k) * w (ix2 k q) = O ⟨256 * i + p, by omega⟩) :
    block X w b lut i (ix2 p q) = entry (O ⟨256 * i + p, by omega⟩) (Finset.univ.fold max ⊥ O) (Finset.univ.fold min ⊤ O)
      (lut (ix1 0)) (lut (ix1 15)) (b (ix2 0 q)) := by
  have hO : ∀ (i : Fin 8) (p : Fin 256), slabs X w i (ix2 p q) = O ⟨256 * i + p, by omega⟩ := fun i p => (slab_at _ _ p q).trans (h i p)
  have ht : topRow X w (ix2 0 q) = Finset.univ.fold max ⊥ O := top_at (slabs X w) q O hO _ _ _ _ _ _ _ rfl rfl rfl
  rw [block, stored_at, hO, ht, bottom_at (slabs X w) q O hO]

end Cert.Proof.Block

end
-- ==== Proof.Array.lean ====
/- From the blocks of the grid to the whole result array of the kernel, and from there to the kernel's run. -/
module

public import proofs.«01_k».proof.Proof.Point
public import Idealize.ShloMosaic.Lib.Pointwise

@[expose] public section

set_option maxRecDepth 16384

noncomputable section

namespace Cert.Proof.Block

open Idealize.ShloMosaic Idealize.ShloMosaic.TcCoe Idealize.SL.Sem Cert.KernelIdeal Cert.KernelIdeal.Gen
open Idealize.ShloMosaic.Pipeline (Dat Window)

variable (m : (ℓ : Loc nD τ sig) → Buf (Elt Ideal) ℓ) (c : Dev nD)

/-- The product of the activations with the weight, at row `r` and column `j`. -/
def product (x : Vec Ideal S1x2048x2048 .f32) (w : Vec Ideal S2048x2048 .f32) (j r : Fin 2048) : EReal :=
  ∑ k : Fin 2048, x (ix3 0 r k) * w (ix2 k j)

/-- The whole array the kernel stores, from its four arguments. -/
def whole (x : Vec Ideal S1x2048x2048 .f32) (w : Vec Ideal S2048x2048 .f32) (b : Vec Ideal S2048 .f32) (lut : Vec Ideal S16 .f32) :
    Vec Ideal S2048x2048 .f32 := fun i =>
  entry (product x w (i 1) (i 0)) (Finset.univ.fold max ⊥ (product x w (i 1))) (Finset.univ.fold min ⊤ (product x w (i 1)))
    (lut (ix1 0)) (lut (ix1 15)) (b (ix1 (i 1)))

/-- The activations as the grid finds them: eight blocks of 256 rows. -/
def rows (i : Fin 8) : Vec Ideal S1x256x2048 .f32 := fun y => V m c main_call0_v1 (ix3 i (y 1) (y 2))

/-- An index of the blocked activations with its first coordinate known reads the block of that number. -/
theorem rows_of (i : Fin 8) (y : S1x256x2048.Idx) (e : S8x256x2048.Idx) (h : ∀ a, (e a : ℕ) = ![(i : ℕ), 0, 0] a * S1x256x2048.size a + y a) :
    V m c main_call0_v1 e = rows m c i y := by
  have h0 : (y 0 : ℕ) < 1 := (y 0).isLt
  refine congrArg (V m c main_call0_v1) (funext fun a => Fin.ext ?_)
  rw [h a]
  fin_cases a
  · show (i : ℕ) * 1 + (y 0 : ℕ) = i; omega
  · show 0 * 256 + (y 1 : ℕ) = y 1; omega
  · show 0 * 2048 + (y 2 : ℕ) = y 2; omega

/-- Each of the eight activation windows holds its block at every point, -/
theorem iblk_0 (t : Fin cfg0.N) : iblk m c 0 t = rows m c 0 :=
  funext fun y => rows_of m c 0 y _ fun a => (win0_0.rect_emb_val t y a).trans (by rfl)
/-- row block 1, -/
theorem iblk_1 (t : Fin cfg0.N) : iblk m c 1 t = rows m c 1 :=
  funext fun y => rows_of m c 1 y _ fun a => (win0_1.rect_emb_val t y a).trans (by rfl)
/-- row block 2, -/
theorem iblk_2 (t : Fin cfg0.N) : iblk m c 2 t = rows m c 2 :=
  funext fun y => rows_of m c 2 y _ fun a => (win0_2.rect_emb_val t y a).trans (by rfl)
/-- row block 3, -/
theorem iblk_3 (t : Fin cfg0.N) : iblk m c 3 t = rows m c 3 :=
  funext fun y => rows_of m c 3 y _ fun a => (win0_3.rect_emb_val t y a).trans (by rfl)
/-- row block 4, -/
theorem iblk_4 (t : Fin cfg0.N) : iblk m c 4 t = rows m c 4 :=
  funext fun y => rows_of m c 4 y _ fun a => (win0_4.rect_emb_val t y a).trans (by rfl)
/-- row block 5, -/
theorem iblk_5 (t : Fin cfg0.N) : iblk m c 5 t = rows m c 5 :=
  funext fun y => rows_of m c 5 y _ fun a => (win0_5.rect_emb_val t y a).trans (by rfl)
/-- row block 6, -/
theorem iblk_6 (t : Fin cfg0.N) : iblk m c 6 t = rows m c 6 :=
  funext fun y => rows_of m c 6 y _ fun a => (win0_6.rect_emb_val t y a).trans (by rfl)
/-- row block 7. -/
theorem iblk_7 (t : Fin cfg0.N) : iblk m c 7 t = rows m c 7 :=
  funext fun y => rows_of m c 7 y _ fun a => (win0_7.rect_emb_val t y a).trans (by rfl)

/-- Point `t` works on the column block of that number, -/
theorem index_8 (t : Fin cfg0.N) : win0_8.index t = ![0, (t : ℕ)] := by
  rcases fin_N0 t with rfl | rfl | rfl | rfl | rfl | rfl | rfl | rfl <;> decide +kernel
/-- and so does the bias's window, -/
theorem index_9 (t : Fin cfg0.N) : win0_9.index t = ![0, (t : ℕ)] := by
  rcases fin_N0 t with rfl | rfl | rfl | rfl | rfl | rfl | rfl | rfl <;> decide +kernel
/-- the table's window stands still, -/
theorem index_10 (t : Fin cfg0.N) : win0_10.index t = ![0] := by
  rcases fin_N0 t with rfl | rfl | rfl | rfl | rfl | rfl | rfl | rfl <;> decide +kernel
/-- and the result's window goes over the columns like the weight's. -/
theorem index_11 (t : Fin cfg0.N) : win0_11.index t = ![0, (t : ℕ)] := by
  rcases fin_N0 t with rfl | rfl | rfl | rfl | rfl | rfl | rfl | rfl <;> decide +kernel

/-- There are eight points. -/
theorem lt_eight (t : Fin cfg0.N) : (t : ℕ) < 8 := lt_of_lt_of_eq t.isLt N_0

/-- Column `q` of the block of point `t`. -/
def column (t : Fin cfg0.N) (q : Fin 256) : Fin 2048 := ⟨t * 256 + q, by have := lt_eight t; omega⟩

/-- The weight's block at point `t`, -/
theorem iblk_8 (t : Fin cfg0.N) (k : Fin 2048) (q : Fin 256) :
    iblk m c 8 t (ix2 k q) = m ((c : Thread nD τ).loc main_arg1) (ix2 k (column t q)) := by
  show V m c main_arg1 ((win0_8.rect t).emb (ix2 k q)) = _
  rw [V_main_arg1]
  refine congrArg (m ((c : Thread nD τ).loc main_arg1)) (funext fun a => Fin.ext ?_)
  rw [win0_8.rect_emb_val t _ a, index_8]
  fin_cases a
  · show 0 * 2048 + (k : ℕ) = k; omega
  · rfl

/-- the bias's, -/
theorem iblk_9 (t : Fin cfg0.N) (q : Fin 256) :
    iblk m c 9 t (ix2 0 q) = V m c main_call0_v2 (ix2 0 (column t q)) := by
  show V m c main_call0_v2 ((win0_9.rect t).emb (ix2 0 q)) = _
  refine congrArg (V m c main_call0_v2) (funext fun a => Fin.ext ?_)
  rw [win0_9.rect_emb_val t _ a, index_9]
  fin_cases a <;> rfl

/-- and the table's, which is the whole table. -/
theorem iblk_10 (t : Fin cfg0.N) (k : Fin 16) :
    iblk m c 10 t (ix1 k) = m ((c : Thread nD τ).loc main_arg3) (ix1 k) := by
  show V m c main_arg3 ((win0_10.rect t).emb (ix1 k)) = _
  rw [V_main_arg3]
  refine congrArg (m ((c : Thread nD τ).loc main_arg3)) (funext fun a => Fin.ext ?_)
  rw [win0_10.rect_emb_val t _ a, index_10]
  fin_cases a
  show 0 * 16 + (k : ℕ) = k; omega

/-- The blocked activations are the activations read in order, -/
theorem rows_at (i : Fin 8) (p : Fin 256) (k : Fin 2048) :
    rows m c i (ix3 0 p k) = m ((c : Thread nD τ).loc main_arg0) (ix3 0 ⟨256 * i + p, by omega⟩ k) := by
  show V m c main_call0_v1 (ix3 i p k) = _
  simp only [V, V0, hostOps0, List.flatten_cons, List.flatten_nil, List.append_nil, List.cons_append, List.nil_append]
  entry_read
  pointwise
  simp only [Nat.mul_comm 256]

/-- and the bias as a row is the bias. -/
theorem bias_at (j : Fin 2048) : V m c main_call0_v2 (ix2 0 j) = m ((c : Thread nD τ).loc main_arg2) (ix1 j) := by
  simp only [V, V0, hostOps0, List.flatten_cons, List.flatten_nil, List.append_nil, List.cons_append, List.nil_append]
  entry_read
  pointwise

/-- The array the kernel stores, of the arguments device `c` was launched with. -/
abbrev stored_whole : Vec Ideal S2048x2048 .f32 :=
  whole (m ((c : Thread nD τ).loc main_arg0)) (m ((c : Thread nD τ).loc main_arg1))
    (m ((c : Thread nD τ).loc main_arg2)) (m ((c : Thread nD τ).loc main_arg3))

/-- What a point leaves in the staging buffer of the result is its column block of that array. -/
theorem outs_at (t : Fin cfg0.N) (r : Fin 2048) (q : Fin 256) :
    outsAt0 m c t (ix2 r q) = stored_whole m c (ix2 r (column t q)) := by
  have hr : 256 * ((r : ℕ) / 256) + (r : ℕ) % 256 = r := Nat.div_add_mod _ _
  unfold outsAt0
  rw [iblk_0, iblk_1, iblk_2, iblk_3, iblk_4, iblk_5, iblk_6, iblk_7]
  refine (out_eq c (X := rows m c) (y := ix2 r q) ..).trans ?_
  refine (block_at (rows m c) _ _ _ _ _ q
    (product (m ((c : Thread nD τ).loc main_arg0)) (m ((c : Thread nD τ).loc main_arg1)) (column t q)) (fun i p => ?_)).trans ?_
  · unfold product
    exact Finset.sum_congr rfl fun k _ => congrArg₂ (· * ·) (rows_at m c i p k) (iblk_8 m c t k q)
  · rw [iblk_10, iblk_10, iblk_9, bias_at]
    have e : (⟨256 * ((r : ℕ) / 256) + (r : ℕ) % 256, by omega⟩ : Fin 2048) = r := Fin.ext hr
    exact congrArg (fun o => entry (product _ _ (column t q) o) _ _ _ _ _) e

/-- So the point writes back its block of the array, -/
theorem flushed_eq (t : Fin cfg0.N) :
    (dats m 0 c).flushed 11 t = ((cfg0.win 11).blk t).view.read (Elt Ideal) (stored_whole m c) := by
  show (cfg0.win 11).cut (grid0.coords t) ((dats m 0 c).after 11 t) = _
  rw [after0_11]
  funext y
  have hy : (win0_11.rect t).emb y = ix2 (y 0) (column t (y 1)) := by
    funext a
    refine Fin.ext ?_
    rw [win0_11.rect_emb_val t _ a, index_11]
    fin_cases a
    · show 0 * 2048 + (y 0 : ℕ) = y 0; omega
    · rfl
  show outsAt0 m c t y = stored_whole m c ((win0_11.rect t).emb y)
  rw [hy]
  exact (congrArg (outsAt0 m c t) (eq_ix2 y)).trans (outs_at m c t (y 0) (y 1))

/-- the blocks cover the array, -/
theorem cover (i : S2048x2048.Idx) : ∃ t : Fin cfg0.N, (cfg0.win 11).flush t = true ∧ i ∈ ((cfg0.win 11).blk t).view.set := by
  have h1 : (i 1 : ℕ) < 2048 := (i 1).isLt
  have hN : cfg0.N = 8 := N_0
  have ht : (i 1 : ℕ) / 256 < cfg0.N := by omega
  refine ⟨⟨(i 1 : ℕ) / 256, ht⟩, flush0_11 _, ?_⟩
  show i ∈ ((View.whole main_call0_v3).slice (win0_11.rect ⟨(i 1 : ℕ) / 256, ht⟩)).set
  rw [View.set_slice_whole, Rect.mem_set_unit]
  intro a
  show win0_11.index ⟨(i 1 : ℕ) / 256, ht⟩ a * win0_11.size a ≤ (i a : ℕ)
    ∧ (i a : ℕ) < win0_11.index ⟨(i 1 : ℕ) / 256, ht⟩ a * win0_11.size a + win0_11.size a
  rw [index_11]
  fin_cases a
  · show 0 * 2048 ≤ (i 0 : ℕ) ∧ (i 0 : ℕ) < 0 * 2048 + 2048
    have h0 : (i 0 : ℕ) < 2048 := (i 0).isLt
    omega
  · show (i 1 : ℕ) / 256 * 256 ≤ (i 1 : ℕ) ∧ (i 1 : ℕ) < (i 1 : ℕ) / 256 * 256 + 256
    omega

/-- and the array ends holding it. -/
theorem final : (dats m 0 c).arrAt 11 cfg0.N = stored_whole m c :=
  (dats m 0 c).arrAt_eq_of_cover 11 (stored_whole m c) (fun t _ => flushed_eq m c t) cover

end Cert.Proof.Block

end
-- ==== Proof.Result.lean ====
/- The run of the kernel, with its result named. -/
module

public import proofs.«01_k».proof.Proof.Array
public import Idealize.ShloMosaic.Lib.Claim

@[expose] public section

set_option maxRecDepth 16384

noncomputable section

namespace Cert.Proof.Block

open Idealize.ShloMosaic Idealize.ShloMosaic.TcCoe Idealize.SL.Sem Cert.KernelIdeal Cert.KernelIdeal.Gen
open Idealize.ShloMosaic.Pipeline (Dat Window)

variable (m : (ℓ : Loc nD τ sig) → Buf (Elt Ideal) ℓ) (c : Dev nD)

/-- After the last reshape the result buffer holds the stored array with one leading axis of size one. -/
theorem result_at (i : S1x2048x2048.Idx) :
    Pipeline.afterTail₀ cfgs (dats m) 0 (V0 m) [hostOps1] c main_v0 i = stored_whole m c (ix2 (i 1) (i 2)) := by
  have e : Pipeline.withArrays (cfgs 0).spec c (V0 m c) (fun w => (dats m 0 c).arrAt w (cfgs 0).N) (Proc.devRef .tc main_call0_v3)
      = stored_whole m c :=
    (Pipeline.withArrays_arr_shared spec0 c (V0 m c) (fun w => (dats m 0 c).arrAt w cfg0.N)
      ((dats m 0 c).arrAt_sharedIn sharedIn0 (V0 m c) (A_eq m c) cfg0.N) 11).trans (final m c)
  unfold Pipeline.afterTail₀
  simp only [hostOps1, List.flatten_cons, List.flatten_nil, List.append_nil, List.cons_append, List.nil_append]
  entry_read
  rw [e]
  pointwise

end Cert.Proof.Block

end
-- ==== Proof.RefRun.lean ====
/- The reference's run: the result array as one expression of the four arguments, cut at the values that the mathematics names —
   the product, the column's extremes and their midpoint and half-width, the scaled product, the nearest pole's index, its pole. -/
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.Tactic.CleanTypes
public import Idealize.ShloMosaic.Lib.StableHlo.ReadAt
public import Idealize.ShloMosaic.Lib.Pipeline.Frame

@[expose] public section

set_option maxRecDepth 16384

noncomputable section

namespace Cert.Proof.Ref

open Idealize.ShloMosaic Idealize.SL.Sem Cert.ReferenceIdeal Cert.ReferenceIdeal.Facts₀ Cert.ReferenceIdeal.Facts

/-- The product of the activations' rows with the weights. -/
def prod (x : FVec Ideal S1x2048x2048 .f32) (w : FVec Ideal S2048x2048 .f32) : FVec Ideal S2048x2048 .f32 :=
  Host.dotGeneral dot_S2048x2048_S2048x2048_S2048x2048_1_0_0_1_n_n none (shapeCast S2048x2048 x shapeCasts_S1x2048x2048_S2048x2048) w

/-- The largest entry of each column. -/
def top (o : FVec Ideal S2048x2048 .f32) : FVec Ideal S2048 .f32 :=
  Host.reduce FloatOps.maximumf o (constant S_ .f32 0xFF800000#32) reducesTo_S2048x2048_S2048_d0 h_S_

/-- The least entry of each column. -/
def bottom (o : FVec Ideal S2048x2048 .f32) : FVec Ideal S2048 .f32 :=
  Host.reduce FloatOps.minimumf o (constant S_ .f32 0x7F800000#32) reducesTo_S2048x2048_S2048_d0 h_S_

/-- The midpoint of each column's extremes `t` and `b`, as a row. -/
def mid (t b : FVec Ideal S2048 .f32) : FVec Ideal S1x2048 .f32 :=
  broadcastInDim S1x2048 ![1] bcast_S2048_S1x2048_1
    (Host.divf (addf t b) (broadcastInDim S2048 ![] bcast_S_S2048 (constant (F := Ideal) S_ .f32 0x40000000#32)))

/-- Half the distance between each column's extremes `t` and `b`, as a row. -/
def half (t b : FVec Ideal S2048 .f32) : FVec Ideal S1x2048 .f32 :=
  broadcastInDim S1x2048 ![1] bcast_S2048_S1x2048_1
    (Host.divf (subf t b) (broadcastInDim S2048 ![] bcast_S_S2048 (constant (F := Ideal) S_ .f32 0x40000000#32)))

/-- The product brought into the poles' interval: the row `c` of midpoints off, over the row `h` of half-widths or the small
    literal. -/
def scaled (o : FVec Ideal S2048x2048 .f32) (h c : FVec Ideal S1x2048 .f32) : FVec Ideal S2048x2048 .f32 :=
  Host.divf (subf o (broadcastInDim S2048x2048 ![0, 1] bcast_S1x2048_S2048x2048_0_1 c))
    (broadcastInDim S2048x2048 ![0, 1] bcast_S1x2048_S2048x2048_0_1
      (maximumf (broadcastInDim S1x2048 ![] bcast_S_S1x2048 (constant (F := Ideal) S_ .f32 0x322BCC77#32)) h))

/-- The distance of every scaled entry, listed in one row, from every pole. -/
def dist (s : FVec Ideal S2048x2048 .f32) (lut : FVec Ideal S16 .f32) : FVec Ideal S16x4194304 .f32 :=
  Host.absf (subf
    (broadcastInDim S16x4194304 ![0, 1] bcast_S1x4194304_S16x4194304_0_1
      (broadcastInDim S1x4194304 ![1] bcast_S4194304_S1x4194304_1 (shapeCast S4194304 s shapeCasts_S2048x2048_S4194304)))
    (broadcastInDim S16x4194304 ![0, 1] bcast_S16x1_S16x4194304_0_1 (broadcastInDim S16x1 ![0] bcast_S16_S16x1_0 lut)))

/-- The index of the least distance, the first of equal ones. -/
def nearest (d : FVec Ideal S16x4194304 .f32) : IVec S4194304 32 :=
  fun j => (Host.argReduce reducer_argmin_f32_i32 d (iotaInDim S16x4194304 32 0) (constant S_ .f32 0x7F800000#32)
    (constantI S_ 32 0#32) reducesTo_S16x4194304_S4194304_d0 h_S_ j).2

/-- An index with 16 added where it is negative, as a column. -/
def wrapped (i : IVec S4194304 32) : IVec S4194304x1 32 :=
  broadcastInDim S4194304x1 ![0] bcast_S4194304_S4194304x1_0
    (select (cmpi .slt i (broadcastInDim S4194304 ![] bcast_S_S4194304 (constantI S_ 32 0#32)))
      (addi i (broadcastInDim S4194304 ![] bcast_S_S4194304 (constantI S_ 32 16#32))) i)

/-- Where a wrapped index lies in 0 … 15. -/
def inside (i : IVec S4194304x1 32) : IVec S4194304 1 :=
  Host.reduce IntOp.andi
    (andi (cmpi .sge i (broadcastInDim S4194304x1 ![] bcast_S_S4194304x1 (constantI S_ 32 0#32)))
      (cmpi .sle i (broadcastInDim S4194304x1 ![0, 1] bcast_S1x1_S4194304x1_0_1
        (broadcastInDim S1x1 ![1] bcast_S1_S1x1_1 (constantI S1 32 15#32)))))
    (constantI S_ 1 1#1) reducesTo_S4194304x1_S4194304_d1 h_S_

/-- The pole at each index, or the not-a-number literal where the index is outside. -/
def pole (lut : FVec Ideal S16 .f32) (i : IVec S4194304 32) : FVec Ideal S4194304 .f32 :=
  select (inside (wrapped i)) (Host.gather gather_S16_S4194304x1_S4194304_n_0_n_n_0_1_1 lut (wrapped i))
    (broadcastInDim S4194304 ![] bcast_S_S4194304 (constant (F := Ideal) S_ .f32 0x7FC00000#32))

/-- The poles brought back to the column's scale: times the row `h` of half-widths, plus the row `c` of midpoints. -/
def spread (p : FVec Ideal S4194304 .f32) (h c : FVec Ideal S1x2048 .f32) : FVec Ideal S2048x2048 .f32 :=
  addf (mulf (shapeCast S2048x2048 p shapeCasts_S4194304_S2048x2048)
      (broadcastInDim S2048x2048 ![0, 1] bcast_S1x2048_S2048x2048_0_1 h))
    (broadcastInDim S2048x2048 ![0, 1] bcast_S1x2048_S2048x2048_0_1 c)

/-- A zero of the matrix's shape, as the reference spells it. -/
def zeros : FVec Ideal S2048x2048 .f32 :=
  broadcastInDim S2048x2048 ![] bcast_S_S2048x2048 (constant (F := Ideal) S_ .f32 0x00000000#32)

/-- Zero in place of a value that differs from itself. -/
def noNaN (v : FVec Ideal S2048x2048 .f32) : FVec Ideal S2048x2048 .f32 := select (cmpf .une v v) zeros v

/-- Zero in place of the value of the word `b` (an infinity). -/
def noInf (b : BitVec 32) (v : FVec Ideal S2048x2048 .f32) : FVec Ideal S2048x2048 .f32 :=
  select (cmpf .oeq v (broadcastInDim S2048x2048 ![] bcast_S_S2048x2048 (constant (F := Ideal) S_ .f32 b))) zeros v

/-- The matrix as the one batch entry, plus the bias along its columns. -/
def biased (v : FVec Ideal S2048x2048 .f32) (b : FVec Ideal S2048 .f32) : FVec Ideal S1x2048x2048 .f32 :=
  addf (shapeCast S1x2048x2048 v shapeCasts_S2048x2048_S1x2048x2048)
    (broadcastInDim S1x2048x2048 ![0, 1, 2] bcast_S1x1x2048_S1x2048x2048_0_1_2
      (broadcastInDim S1x1x2048 ![2] bcast_S2048_S1x1x2048_2 b))

/-- The product's entries replaced by their poles. -/
def quantised (o : FVec Ideal S2048x2048 .f32) (lut : FVec Ideal S16 .f32) : FVec Ideal S2048x2048 .f32 :=
  noInf 0xFF800000#32 (noInf 0x7F800000#32 (noNaN
    (spread (pole lut (nearest (dist (scaled o (half (top o) (bottom o)) (mid (top o) (bottom o))) lut))) (half (top o) (bottom o)) (mid (top o) (bottom o)))))

/-- The quantised product plus the bias: what the reference returns. -/
def result (x : FVec Ideal S1x2048x2048 .f32) (w : FVec Ideal S2048x2048 .f32) (b : FVec Ideal S2048 .f32)
    (lut : FVec Ideal S16 .f32) : FVec Ideal S1x2048x2048 .f32 :=
  biased (quantised (prod x w) lut) b

/-- The operations of the reference's body, in order, with evidence that the body is this line. -/
def line : { ops : List (HloOp τ sig (Elt Ideal)) // ∀ d, StableHlo.IsSeq (main (F := Ideal) d) ops } := by
  apply Subtype.mk
  hlo_seq

/-- The stretch of `n` of those operations that begins at position `i`. -/
def seg (i n : ℕ) : List (HloOp τ sig (Elt Ideal)) := (line.1.drop i).take n

/-- The first stretch computes the product. -/
theorem seg_prod (V : Valuation τ sig (Elt Ideal)) :
    StableHlo.after (seg 0 2) V (Proc.devRef .tc main_v1) = prod (V (Proc.devRef .tc main_arg0)) (V (Proc.devRef .tc main_arg1)) := by
  after_reads_simp
  all_goals try simp -implicitDefEqProofs only [StableHlo.TRef.toBuf, StableHlo.TRef.ofBuf, cast_cast, cast_eq]
  all_goals rfl

/-- The second computes the midpoints from the product -/
theorem seg_mid (V : Valuation τ sig (Elt Ideal)) :
    StableHlo.after (seg 2 14) V (Proc.devRef .tc main_v10) = mid (top (V (Proc.devRef .tc main_v1))) (bottom (V (Proc.devRef .tc main_v1))) := by
  after_reads_simp
  all_goals try simp -implicitDefEqProofs only [StableHlo.TRef.toBuf, StableHlo.TRef.ofBuf, cast_cast, cast_eq]
  all_goals rfl

/-- and the half-widths. -/
theorem seg_half (V : Valuation τ sig (Elt Ideal)) :
    StableHlo.after (seg 2 14) V (Proc.devRef .tc main_v11) = half (top (V (Proc.devRef .tc main_v1))) (bottom (V (Proc.devRef .tc main_v1))) := by
  after_reads_simp
  all_goals try simp -implicitDefEqProofs only [StableHlo.TRef.toBuf, StableHlo.TRef.ofBuf, cast_cast, cast_eq]
  all_goals rfl

/-- The third scales the product. -/
theorem seg_scaled (V : Valuation τ sig (Elt Ideal)) :
    StableHlo.after (seg 16 8) V (Proc.devRef .tc main_v16) = scaled (V (Proc.devRef .tc main_v1)) (V (Proc.devRef .tc main_v11)) (V (Proc.devRef .tc main_v10)) := by
  after_reads_simp
  all_goals try simp -implicitDefEqProofs only [StableHlo.TRef.toBuf, StableHlo.TRef.ofBuf, cast_cast, cast_eq]
  all_goals rfl

/-- The fourth takes the distances from the poles. -/
theorem seg_dist (V : Valuation τ sig (Elt Ideal)) :
    StableHlo.after (seg 24 7) V (Proc.devRef .tc main_v23) = dist (V (Proc.devRef .tc main_v16)) (V (Proc.devRef .tc main_arg3)) := by
  after_reads_simp
  all_goals try simp -implicitDefEqProofs only [StableHlo.TRef.toBuf, StableHlo.TRef.ofBuf, cast_cast, cast_eq]
  all_goals rfl

/-- The fifth finds the nearest pole's index. -/
theorem seg_nearest (V : Valuation τ sig (Elt Ideal)) :
    StableHlo.after (seg 31 5) V (Proc.devRef .tc main_v24) = nearest (V (Proc.devRef .tc main_v23)) := by
  after_reads_simp
  all_goals try simp -implicitDefEqProofs only [StableHlo.TRef.toBuf, StableHlo.TRef.ofBuf, cast_cast, cast_eq]
  all_goals rfl

/-- The sixth looks the pole up. -/
theorem seg_pole (V : Valuation τ sig (Elt Ideal)) :
    StableHlo.after (seg 36 22) V (Proc.devRef .tc main_v25) = pole (V (Proc.devRef .tc main_arg3)) (V (Proc.devRef .tc main_v24)) := by
  after_reads_simp
  all_goals try simp -implicitDefEqProofs only [StableHlo.TRef.toBuf, StableHlo.TRef.ofBuf, cast_cast, cast_eq]
  all_goals rfl

/-- The seventh brings it back to the column's scale. -/
theorem seg_spread (V : Valuation τ sig (Elt Ideal)) :
    StableHlo.after (seg 58 5) V (Proc.devRef .tc main_v30) = spread (V (Proc.devRef .tc main_v25)) (V (Proc.devRef .tc main_v11)) (V (Proc.devRef .tc main_v10)) := by
  after_reads_simp
  all_goals try simp -implicitDefEqProofs only [StableHlo.TRef.toBuf, StableHlo.TRef.ofBuf, cast_cast, cast_eq]
  all_goals rfl

/-- The eighth puts zero in the place of what is no finite number. -/
theorem seg_noNaN (V : Valuation τ sig (Elt Ideal)) :
    StableHlo.after (seg 63 19) V (Proc.devRef .tc main_v31) = noInf 0xFF800000#32 (noInf 0x7F800000#32 (noNaN (V (Proc.devRef .tc main_v30)))) := by
  after_reads_simp
  all_goals try simp -implicitDefEqProofs only [StableHlo.TRef.toBuf, StableHlo.TRef.ofBuf, cast_cast, cast_eq]
  all_goals rfl

/-- The last adds the bias. -/
theorem seg_biased (V : Valuation τ sig (Elt Ideal)) :
    StableHlo.after (seg 82 4) V (Proc.devRef .tc main_v35) = biased (V (Proc.devRef .tc main_v31)) (V (Proc.devRef .tc main_arg2)) := by
  after_reads_simp
  all_goals try simp -implicitDefEqProofs only [StableHlo.TRef.toBuf, StableHlo.TRef.ofBuf, cast_cast, cast_eq]
  all_goals rfl

/-- A stretch keeps a buffer that it doesn't write. -/
def Keeps (i n : ℕ) (r : Ref sig .tc) : Prop :=
  ∀ V : Valuation τ sig (Elt Ideal), StableHlo.after (seg i n) V (Proc.devRef .tc r) = V (Proc.devRef .tc r)

/-- The second keeps the product, the bias and the poles. -/
theorem keeps_2 : Keeps 2 14 main_v1 ∧ Keeps 2 14 main_arg2 ∧ Keeps 2 14 main_arg3 := by
  refine ⟨?_, ?_, ?_⟩ <;> intro V <;> after_reads_simp

/-- The third keeps the two rows, the bias and the poles. -/
theorem keeps_16 : Keeps 16 8 main_v10 ∧ Keeps 16 8 main_v11 ∧ Keeps 16 8 main_arg2 ∧ Keeps 16 8 main_arg3 := by
  refine ⟨?_, ?_, ?_, ?_⟩ <;> intro V <;> after_reads_simp

/-- The fourth keeps the same. -/
theorem keeps_24 : Keeps 24 7 main_v10 ∧ Keeps 24 7 main_v11 ∧ Keeps 24 7 main_arg2 ∧ Keeps 24 7 main_arg3 := by
  refine ⟨?_, ?_, ?_, ?_⟩ <;> intro V <;> after_reads_simp

/-- The fifth keeps the same. -/
theorem keeps_31 : Keeps 31 5 main_v10 ∧ Keeps 31 5 main_v11 ∧ Keeps 31 5 main_arg2 ∧ Keeps 31 5 main_arg3 := by
  refine ⟨?_, ?_, ?_, ?_⟩ <;> intro V <;> after_reads_simp

/-- The sixth keeps the two rows and the bias. -/
theorem keeps_36 : Keeps 36 22 main_v10 ∧ Keeps 36 22 main_v11 ∧ Keeps 36 22 main_arg2 := by
  refine ⟨?_, ?_, ?_⟩ <;> intro V <;> after_reads_simp

/-- The seventh keeps the bias. -/
theorem keeps_58 : Keeps 58 5 main_arg2 ∧ True := by
  refine ⟨?_, trivial⟩ <;> intro V <;> after_reads_simp

/-- The eighth keeps the bias. -/
theorem keeps_63 : Keeps 63 19 main_arg2 ∧ True := by
  refine ⟨?_, trivial⟩ <;> intro V <;> after_reads_simp

/-- The first stretch keeps the bias and the poles. -/
theorem keeps_0 : Keeps 0 2 main_arg2 ∧ Keeps 0 2 main_arg3 := by
  refine ⟨?_, ?_⟩ <;> intro V <;> after_reads_simp

/-- The line is its stretches one after the other. -/
theorem line_eq : line.1 = seg 0 2 ++ (seg 2 14 ++ (seg 16 8 ++ (seg 24 7 ++ (seg 31 5 ++ (seg 36 22 ++ (seg 58 5 ++ (seg 63 19 ++ seg 82 4))))))) := rfl

/-- What the whole line leaves in the result buffer. -/
theorem line_result (V : Valuation τ sig (Elt Ideal)) :
    StableHlo.after line.1 V (Proc.devRef .tc main_v35)
      = result (V (Proc.devRef .tc main_arg0)) (V (Proc.devRef .tc main_arg1)) (V (Proc.devRef .tc main_arg2))
          (V (Proc.devRef .tc main_arg3)) := by
  rw [line_eq]
  iterate 8 rw [StableHlo.after_append]
  rw [seg_biased, seg_noNaN, seg_spread, seg_pole, seg_nearest, seg_dist, seg_scaled]
  obtain ⟨a1, a2⟩ := keeps_0
  obtain ⟨b1, b2, b3⟩ := keeps_2
  obtain ⟨c1, c2, c3, c4⟩ := keeps_16
  obtain ⟨d1, d2, d3, d4⟩ := keeps_24
  obtain ⟨e1, e2, e3, e4⟩ := keeps_31
  obtain ⟨f1, f2, f3⟩ := keeps_36
  rw [keeps_63.1, keeps_58.1, f1, f2, f3, e1, e2, e3, e4, d1, d2, d3, d4, c1, c2, c3, c4, seg_mid, seg_half, b1, b2, b3, a1, a2,
    seg_prod]
  rfl

/-- The reference runs to its end, its result buffer holding `result` of its arguments, the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v35)
          = result (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  refine θ_run_mono (StableHlo.run_hlo _ _ line.2 (by decide) (by decide) ?_ ?_ m g) ?_
  · simp [line]
  · intro _ h
    (repeat (cases h with | head => rfl | tail _ h => ?_)); exact nomatch h
  intro r h c
  refine ⟨(h c main_v35).trans (line_result _), ?_, ?_, ?_, ?_⟩
  all_goals rw [h c]; after_reads_simp

end Cert.Proof.Ref

end
-- ==== Proof.Nearest.lean ====
/- The reference's arg-min read at one column: it picks the first of the least distances. -/
module

public import proofs.«01_k».proof.Proof.RefRun
public import Idealize.ShloMosaic.Lib.Pointwise

@[expose] public section

set_option maxRecDepth 16384

noncomputable section

namespace Cert.Proof.Ref

open Idealize.ShloMosaic Idealize.SL.Sem Cert.ReferenceIdeal Cert.ReferenceIdeal.Facts₀ Cert.ReferenceIdeal.Facts

/-- The order of the arg-min's pairs: by the value, and by the index where the values are equal. -/
def Before (p q : EReal × BitVec 32) : Prop := p.1 < q.1 ∨ p.1 = q.1 ∧ p.2.toInt ≤ q.2.toInt

/-- A pair comes before itself, -/
theorem Before.refl (p : EReal × BitVec 32) : Before p p := Or.inr ⟨rfl, le_rfl⟩

/-- and the order is transitive. -/
theorem Before.trans {p q r : EReal × BitVec 32} (h : Before p q) (h' : Before q r) : Before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- One step of the arg-min keeps one of its two pairs, and the one it keeps is before both. -/
theorem step_before (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have hr : reducer_argmin_f32_i32 (F := Ideal) (x, i) (y, j)
      = if x < y ∨ x = y ∧ i.toInt < j.toInt then (x, i) else (y, j) := by
    unfold reducer_argmin_f32_i32
    simp only [Ideal.cmpf_def, Ideal.cmp, Scalar.select, IntOp.ori, IntOp.andi, IntOp.cmpi, BitVec.slt]
    rcases lt_trichotomy x y with h | h | h
    · simp [h, h.ne]
    · subst h
      by_cases hij : i.toInt < j.toInt <;> simp [hij]
    · simp [h.not_gt, h.ne']
  rw [hr]
  split
  · rename_i h
    refine ⟨Or.inl rfl, Before.refl _, ?_⟩
    exact h.imp id fun h => ⟨h.1, h.2.le⟩
  · rename_i h
    refine ⟨Or.inr rfl, ?_, Before.refl _⟩
    rcases lt_trichotomy x y with h' | h' | h'
    · exact absurd (Or.inl h') h
    · refine Or.inr ⟨h'.symm, ?_⟩
      by_contra hn
      exact h (Or.inr ⟨h', not_le.1 hn⟩)
    · exact Or.inl h'

/-- The arg-min of a list of pairs from a first pair is one of them and before all of them. -/
theorem foldl_before (l : List (EReal × BitVec 32)) (p : EReal × BitVec 32) :
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l generalizing p with
  | nil => exact ⟨Or.inl rfl, Before.refl _, fun q hq => nomatch hq⟩
  | cons a l ih =>
    obtain ⟨s1, s2, s3⟩ := step_before p a
    obtain ⟨i1, i2, i3⟩ := ih (reducer_argmin_f32_i32 (F := Ideal) p a)
    rw [List.foldl_cons]
    refine ⟨?_, i2.trans s2, ?_⟩
    · rcases i1 with h | h
      · rw [h]
        exact s1.imp id fun h => by rw [h]; exact List.mem_cons_self
      · exact Or.inr (List.mem_cons_of_mem _ h)
    · intro q hq
      rcases List.mem_cons.1 hq with rfl | hq
      · exact i2.trans s3
      · exact i3 q hq

/-- Dropping the first coordinate leaves the second. -/
theorem drop_eq_iff (i : S16x4194304.Idx) (q : Fin 4194304) :
    reducesTo_S16x4194304_S4194304_d0.drop i = ix1 q ↔ i 1 = q := by
  have hv : (reducesTo_S16x4194304_S4194304_d0.drop i 0 : Nat) = i 1 := Shape.ReducesTo.drop_apply_val _ i 0
  constructor
  · intro e; rw [e] at hv; exact Fin.ext hv.symm
  · intro e
    funext b
    have hb : b = 0 := Subsingleton.elim _ _
    subst hb
    exact Fin.ext (by rw [hv, e]; rfl)

/-- The pairs that the arg-min of column `q` runs over: the sixteen distances with their indices. -/
theorem mem_fiber (d : FVec Ideal S16x4194304 .f32) (q : Fin 4194304) (p : EReal × BitVec 32) :
    p ∈ Host.argReduceFiber (α := Ideal .f32) d (iotaInDim S16x4194304 32 0) reducesTo_S16x4194304_S4194304_d0 (ix1 q)
      ↔ ∃ k : Fin 16, p = (d (ix2 k q), BitVec.ofNat 32 k) := by
  have hi : ∀ k : Fin 16, iotaInDim S16x4194304 32 0 (ix2 k q) = BitVec.ofNat 32 k := fun k => rfl
  rw [Host.argReduceFiber, List.mem_map]
  constructor
  · rintro ⟨n, hn, rfl⟩
    have h := (drop_eq_iff _ q).1 (by simpa using (List.mem_filter.1 hn).2)
    generalize S16x4194304.rowMajor.symm n = i at h
    obtain ⟨a, b, rfl⟩ : ∃ (a : Fin 16) (b : Fin 4194304), i = ix2 a b := ⟨i 0, i 1, eq_ix2 i⟩
    obtain rfl : b = q := h
    exact ⟨a, rfl⟩
  · rintro ⟨k, rfl⟩
    refine ⟨S16x4194304.rowMajor (ix2 k q), List.mem_filter.2 ⟨List.mem_finRange _, ?_⟩, ?_⟩
    · rw [Equiv.symm_apply_apply]
      exact decide_eq_true ((drop_eq_iff _ q).2 rfl)
    · rw [Equiv.symm_apply_apply, hi]

/-- The arg-min's indices as a function of the place (stated of the whole function, so that no single place is evaluated). -/
theorem nearest_eq (d : FVec Ideal S16x4194304 .f32) :
    nearest d = fun j => (Host.argReduce (reducer_argmin_f32_i32 (F := Ideal)) d (iotaInDim S16x4194304 32 0)
      (constant (F := Ideal) S_ .f32 0x7F800000#32) (constantI S_ 32 0#32) reducesTo_S16x4194304_S4194304_d0 h_S_ j).2 := rfl

/-- The index that the reference finds at `q`: that of the least of the sixteen distances, the first of equal ones. -/
theorem nearest_at (d : FVec Ideal S16x4194304 .f32) (q : Fin 4194304) (hd : d (ix2 0 q) < ⊤) :
    ∃ k : Fin 16, nearest d (ix1 q) = BitVec.ofNat 32 k
      ∧ ∀ l : Fin 16, d (ix2 k q) < d (ix2 l q) ∨ d (ix2 k q) = d (ix2 l q) ∧ (k : ℕ) ≤ l := by
  have hn : nearest d (ix1 q) = ((Host.argReduceFiber (α := Ideal .f32) d (iotaInDim S16x4194304 32 0)
      reducesTo_S16x4194304_S4194304_d0 (ix1 q)).foldl (reducer_argmin_f32_i32 (F := Ideal))
        (constant (F := Ideal) S_ .f32 0x7F800000#32 (Shape.Idx.first h_S_), constantI S_ 32 0#32 (Shape.Idx.first h_S_))).2 :=
    (congrFun (nearest_eq d) (ix1 q)).trans <| congrArg Prod.snd ((congrFun (Ideal.argReduce_eq_reduce2 (reducer_argmin_f32_i32 (F := Ideal)) d (iotaInDim S16x4194304 32 0)
      (constant (F := Ideal) S_ .f32 0x7F800000#32) (constantI S_ 32 0#32) reducesTo_S16x4194304_S4194304_d0 h_S_) (ix1 q)).trans
      (Host.reduce2_eq_foldl_fiber _ _ _ _ _ _ _ _))
  have hw : ∀ k : Fin 16, (BitVec.ofNat 32 k).toInt = (k : ℤ) := by decide
  obtain ⟨h1, h2, h3⟩ := foldl_before (Host.argReduceFiber (α := Ideal .f32) d (iotaInDim S16x4194304 32 0)
      reducesTo_S16x4194304_S4194304_d0 (ix1 q))
    (constant (F := Ideal) S_ .f32 0x7F800000#32 (Shape.Idx.first h_S_), constantI S_ 32 0#32 (Shape.Idx.first h_S_))
  rw [hn]
  revert h1 h2 h3
  generalize List.foldl _ _ _ = r
  intro h1 _ h3
  have hall : ∀ l : Fin 16, Before r (d (ix2 l q), BitVec.ofNat 32 l) := fun l => h3 _ ((mem_fiber d q _).2 ⟨l, rfl⟩)
  rcases h1 with h | h
  · exfalso
    have h0 := hall 0
    have ht : Ideal.ofBits .f32 0x7F800000#32 = ⊤ := by simp [Ideal.ofBits, Ideal.ieee]
    rw [h] at h0
    rcases h0 with h0 | ⟨h0, _⟩
    · exact not_top_lt (lt_of_eq_of_lt ht.symm h0)
    · exact absurd (h0.symm.trans ht) hd.ne
  · obtain ⟨k, rfl⟩ := (mem_fiber d q r).1 h
    refine ⟨k, rfl, fun l => (hall l).imp id fun h => ⟨h.1, ?_⟩⟩
    have := h.2
    simp only [hw] at this
    exact_mod_cast this

end Cert.Proof.Ref

end
-- ==== Proof.RefValue.lean ====
/- The reference's result read at one index. -/
module

public import proofs.«01_k».proof.Proof.Nearest
public import Idealize.ShloMosaic.Lib.Routing.OpsSearch
public import Idealize.ShloMosaic.Lib.Pointwise

@[expose] public section

set_option maxRecDepth 16384

noncomputable section

namespace Cert.Proof.Ref

open Idealize.ShloMosaic Idealize.SL.Sem Cert.ReferenceIdeal Cert.ReferenceIdeal.Facts₀ Cert.ReferenceIdeal.Facts

/-- An entry of the product is the sum over the contracted index. -/
theorem prod_at (x : FVec Ideal S1x2048x2048 .f32) (w : FVec Ideal S2048x2048 .f32) (i j : Fin 2048) :
    prod x w (ix2 i j) = ∑ k : Fin 2048, x (ix3 0 i k) * w (ix2 k j) := by
  pointwise [prod]
/-- A column's maximum. -/
theorem top_at (o : FVec Ideal S2048x2048 .f32) (j : Fin 2048) :
    top o (ix1 j) = Finset.univ.fold max ⊥ fun i : Fin 2048 => o (ix2 i j) := by
  have h : Ideal.ofBits .f32 4286578688#32 = ⊥ := by simp [Ideal.ofBits, Ideal.ieee]
  pointwise [top]
  rw [h]

/-- A column's minimum. -/
theorem bottom_at (o : FVec Ideal S2048x2048 .f32) (j : Fin 2048) :
    bottom o (ix1 j) = Finset.univ.fold min ⊤ fun i : Fin 2048 => o (ix2 i j) := by
  have h : Ideal.ofBits .f32 2139095040#32 = ⊤ := by simp [Ideal.ofBits, Ideal.ieee]
  pointwise [bottom]
  rw [h]

/-- The middle of a column's extremes, as a quotient by two. -/
theorem mid_at (t b : FVec Ideal S2048 .f32) (j : Fin 2048) :
    mid t b (ix2 0 j) = Ideal.div (t (ix1 j) + b (ix1 j)) (Ideal.ofBits .f32 0x40000000#32) := by
  pointwise [mid]
/-- Half the distance of a column's extremes, as a quotient by two. -/
theorem half_at (t b : FVec Ideal S2048 .f32) (j : Fin 2048) :
    half t b (ix2 0 j) = Ideal.div (t (ix1 j) - b (ix1 j)) (Ideal.ofBits .f32 0x40000000#32) := by
  pointwise [half]
/-- An entry less the middle, over the half distance or the small literal. -/
theorem scaled_at (o : FVec Ideal S2048x2048 .f32) (h c : FVec Ideal S1x2048 .f32) (i j : Fin 2048) :
    scaled o h c (ix2 i j)
      = Ideal.div (o (ix2 i j) - c (ix2 0 j)) (max (Ideal.ofBits .f32 0x322BCC77#32) (h (ix2 0 j))) := by
  pointwise [scaled]
/-- The distance of the scaled entry at place `q` of the flattened array from pole `k`. -/
theorem dist_at (s : FVec Ideal S2048x2048 .f32) (lut : FVec Ideal S16 .f32) (k : Fin 16) (i j : Fin 2048) (q : Fin 4194304)
    (hq : (q : ℕ) = i * 2048 + j) :
    dist s lut (ix2 k q) = max (s (ix2 i j) - lut (ix1 k)) (-(s (ix2 i j) - lut (ix1 k))) := by
  have h1 : (q : ℕ) / 2048 = i := by omega
  have h2 : (q : ℕ) % 2048 = j := by omega
  pointwise [dist]
  simp only [h1, h2, Fin.eta]
  exact Ideal.absf_def _

/-- An index from 0 to 15 is not negative, so it is not wrapped, -/
theorem wrapped_at (n : IVec S4194304 32) (q : Fin 4194304) (k : Fin 16) (hn : n (ix1 q) = BitVec.ofNat 32 k) :
    wrapped n (ix2 q 0) = BitVec.ofNat 32 k := by
  pointwise [wrapped]
  rw [hn]
  clear hn
  revert k
  decide

/-- and it lies inside the table. -/
theorem inside_at (n : IVec S4194304x1 32) (q : Fin 4194304) (k : Fin 16) (hn : n (ix2 q 0) = BitVec.ofNat 32 k) :
    inside n (ix1 q) = 1#1 := by
  pointwise [inside]
  rw [Finset.univ_unique, Finset.fold_singleton]
  simp only [Fin.default_eq_zero, Fin.isValue, hn]
  clear hn
  revert k
  decide

/-- The pole taken at a place is the table's entry of the index found there. -/
theorem pole_at (lut : FVec Ideal S16 .f32) (n : IVec S4194304 32) (q : Fin 4194304) (k : Fin 16)
    (hn : n (ix1 q) = BitVec.ofNat 32 k) : pole lut n (ix1 q) = lut (ix1 k) := by
  have hw := wrapped_at n q k hn
  have hi := inside_at _ q k hw
  unfold pole
  rw [select, hi]
  refine (if_pos rfl).trans ?_
  rw [ix1_eq_valueIdx q, ix1_eq_valueIdx k]
  exact Routing.take_ap _ rfl rfl rfl rfl lut _ q k.isLt (k.isLt.trans (by decide)) (by rw [← ix2_eq_valueIdx]; exact hw)

/-- The pole times the half distance, plus the middle, in the two-dimensional order. -/
theorem spread_at (p : FVec Ideal S4194304 .f32) (h c : FVec Ideal S1x2048 .f32) (i j : Fin 2048) (q : Fin 4194304)
    (hq : (q : ℕ) = i * 2048 + j) :
    spread p h c (ix2 i j) = p (ix1 q) * h (ix2 0 j) + c (ix2 0 j) := by
  pointwise [spread]
  simp only [← hq, Fin.eta]

/-- No extended real differs from itself, so nothing is replaced for that reason. -/
theorem noNaN_at (v : FVec Ideal S2048x2048 .f32) (i j : Fin 2048) : noNaN v (ix2 i j) = v (ix2 i j) := by
  pointwise [noNaN, zeros]
  simp

/-- An entry that is not the given infinity is kept. -/
theorem noInf_at (b : BitVec 32) (v : FVec Ideal S2048x2048 .f32) (i j : Fin 2048) (h : v (ix2 i j) ≠ Ideal.ofBits .f32 b) :
    noInf b v (ix2 i j) = v (ix2 i j) := by
  pointwise [noInf, zeros]
  simp [h]

/-- The result adds the column's bias. -/
theorem biased_at (v : FVec Ideal S2048x2048 .f32) (b : FVec Ideal S2048 .f32) (i j : Fin 2048) :
    biased v b (ix3 0 i j) = v (ix2 i j) + b (ix1 j) := by
  pointwise [biased]

end Cert.Proof.Ref

end
-- ==== Proof.Column.lean ====
/- The mathematics of one entry of a column, over the reals: which of sixteen evenly spaced poles is the nearest to the scaled
   entry, and that rounding up finds its index. -/
module

public import Mathlib.Analysis.SpecialFunctions.Pow.Real
public import Mathlib.Algebra.Order.Round
public import Mathlib.Tactic.FieldSimp
public import Mathlib.Tactic.Linarith
public import Mathlib.Tactic.Positivity
public import Mathlib.Tactic.Ring

@[expose] public section

namespace Cert.Proof.Column

/-- The `k`-th of sixteen evenly spaced poles from `lo` to `hi`. -/
noncomputable def pole (lo hi : ℝ) (k : ℕ) : ℝ := lo + k * ((hi - lo) * 15⁻¹)

/-- An entry between the column's extremes, scaled by half their distance or by something larger, lies in [-1, 1]. -/
theorem scaled_mem {o M m ε : ℝ} (hm : m ≤ o) (hM : o ≤ M) (hε : 0 < ε) :
    -1 ≤ (o - (M + m) / 2) / max ((M - m) / 2) ε ∧ (o - (M + m) / 2) / max ((M - m) / 2) ε ≤ 1 := by
  have hd : 0 < max ((M - m) / 2) ε := lt_max_of_lt_right hε
  have hr : (M - m) / 2 ≤ max ((M - m) / 2) ε := le_max_left _ _
  constructor
  · rw [le_div_iff₀ hd]; linarith
  · rw [div_le_iff₀ hd]; linarith

/-- A number between the first and the last pole: rounding its place among the poles up from half a step below gives the index
    of the nearest pole, the lower one where two are equally near. -/
theorem ceil_eq {lo hi s : ℝ} (hlo : lo < hi) (h1 : lo ≤ s) (h2 : s ≤ hi) {k : ℕ} (hk : k < 16)
    (hmin : ∀ l : ℕ, l < 16 → |s - pole lo hi k| < |s - pole lo hi l| ∨ |s - pole lo hi k| = |s - pole lo hi l| ∧ k ≤ l) :
    ⌈(s - lo) * (15 / (hi - lo)) - 1 / 2⌉ = (k : ℤ) := by
  have hd : 0 < hi - lo := by linarith
  have hu : 0 < (hi - lo) * 15⁻¹ := by positivity
  obtain ⟨t, ht⟩ : ∃ t, t = (s - lo) * (15 / (hi - lo)) := ⟨_, rfl⟩
  have hs : s = lo + t * ((hi - lo) * 15⁻¹) := by rw [ht]; field_simp; ring
  have t0 : 0 ≤ t := by rw [ht]; exact mul_nonneg (by linarith) (by positivity)
  have t15 : t ≤ 15 := by
    rw [ht, ← mul_div_assoc, div_le_iff₀ hd]; nlinarith
  have hdist : ∀ l : ℕ, |s - pole lo hi l| = |t - l| * ((hi - lo) * 15⁻¹) := by
    intro l
    rw [hs, pole, show lo + t * ((hi - lo) * 15⁻¹) - (lo + l * ((hi - lo) * 15⁻¹)) = (t - l) * ((hi - lo) * 15⁻¹) by ring, abs_mul,
      abs_of_pos hu]
  rw [← ht]
  obtain ⟨c, hc⟩ : ∃ c, c = ⌈t - 1 / 2⌉ := ⟨_, rfl⟩
  have c1 : t - 1 / 2 ≤ c := hc ▸ Int.le_ceil _
  have c2 : (c : ℝ) < t - 1 / 2 + 1 := hc ▸ Int.ceil_lt_add_one _
  rw [← hc]
  have c0 : 0 ≤ c := by
    have : (-1 : ℝ) < c := by linarith
    have : (-1 : ℤ) < c := by exact_mod_cast this
    omega
  have c15 : c ≤ 15 := by
    have : (c : ℝ) < 16 := by linarith
    have : c < 16 := by exact_mod_cast this
    omega
  obtain ⟨n, rfl⟩ := Int.eq_ofNat_of_zero_le c0
  have hn : n < 16 := by omega
  have hle : |t - n| ≤ 1 / 2 := by
    rw [abs_le]; push_cast at c1 c2; constructor <;> linarith
  push_cast at c1 c2
  by_contra hne
  have hne' : k ≠ n := fun h => hne (by rw [h])
  have key : |t - k| ≤ |t - n| ∧ (|t - k| = |t - n| → k ≤ n) := by
    have := hmin n hn
    rw [hdist, hdist] at this
    rcases this with h | ⟨h, h'⟩
    · have := lt_of_mul_lt_mul_right h hu.le
      exact ⟨this.le, fun e => absurd e this.ne⟩
    · exact ⟨(mul_right_cancel₀ hu.ne' h).le, fun _ => h'⟩
  obtain ⟨k1, k2⟩ := abs_le.1 (key.1.trans hle)
  rcases Nat.lt_or_gt_of_ne hne' with h | h
  · have : (k : ℝ) + 1 ≤ n := by exact_mod_cast h
    linarith
  · have : (n : ℝ) + 1 ≤ k := by exact_mod_cast h
    have e1 : t - k = -(1 / 2) := by linarith
    have e2 : t - n = 1 / 2 := by linarith
    have := key.2 (by rw [e1, e2, abs_neg])
    omega

/-- The index that the kernel computes for an entry is that of the pole nearest to the scaled entry, where the poles reach from
    -1 or less to 1 or more. -/
theorem index_eq {lo hi o M m ε : ℝ} (hlo : lo ≤ -1) (hhi : 1 ≤ hi) (hm : m ≤ o) (hM : o ≤ M) (hε : 0 < ε) {k : ℕ} (hk : k < 16)
    (hmin : ∀ l : ℕ, l < 16 →
      |(o - (M + m) / 2) / max ((M - m) / 2) ε - pole lo hi k| < |(o - (M + m) / 2) / max ((M - m) / 2) ε - pole lo hi l|
      ∨ |(o - (M + m) / 2) / max ((M - m) / 2) ε - pole lo hi k| = |(o - (M + m) / 2) / max ((M - m) / 2) ε - pole lo hi l|
        ∧ k ≤ l) :
    ⌈o * (1 / max ((M - m) / 2) ε * (15 / (hi - lo)))
      + ((-((M + m) / 2) * (1 / max ((M - m) / 2) ε) - lo) * (15 / (hi - lo)) - 1 / 2)⌉ = (k : ℤ) := by
  obtain ⟨s1, s2⟩ := scaled_mem hm hM hε
  rw [← ceil_eq (by linarith : lo < hi) (by linarith) (by linarith) hk hmin]
  congr 1
  ring

/-- The kernel's result of an entry from its pole's index is the pole brought back to the column's scale. -/
theorem result_eq (lo hi r c : ℝ) (k : ℕ) : (k : ℝ) * ((hi - lo) * 15⁻¹ * r) + (lo * r + c) = pole lo hi k * r + c := by
  rw [pole]; ring

end Cert.Proof.Column

end
-- ==== Proof.Lift.lean ====
/- The kernel's value and the reference's at one entry, over the finite extended reals. -/
module

public import proofs.«01_k».proof.Proof.Block
public import proofs.«01_k».proof.Proof.Column
public import Idealize.ShloMosaic.Lib.IdealHost

@[expose] public section

set_option maxRecDepth 16384

noncomputable section

namespace Cert.Proof.Block

open Idealize.ShloMosaic

/-- The literals as numbers: a half, -/
theorem half_lit : Ideal.ofBits .f32 0x3F000000#32 = (((1 / 2 : ℝ)) : EReal) := by
  simp [Ideal.ofBits, Ideal.ieee, -EReal.coe_mul]; norm_num
/-- two, -/
theorem two_lit : Ideal.ofBits .f32 0x40000000#32 = (((2 : ℝ)) : EReal) := by
  simp [Ideal.ofBits, Ideal.ieee, -EReal.coe_mul]; norm_num
/-- fifteen, -/
theorem fifteen_lit : Ideal.ofBits .f32 0x41700000#32 = (((15 : ℝ)) : EReal) := by
  simp [Ideal.ofBits, Ideal.ieee, -EReal.coe_mul]; norm_num
/-- minus one, -/
theorem minus_lit : Ideal.ofBits .f32 0xBF800000#32 = (((-1 : ℝ)) : EReal) := by
  simp [Ideal.ofBits, Ideal.ieee, -EReal.coe_mul, -EReal.coe_neg]; norm_num
/-- one, -/
theorem one_lit : Ideal.ofBits .f32 0x3F800000#32 = (((1 : ℝ)) : EReal) := by
  simp [Ideal.ofBits, Ideal.ieee, -EReal.coe_mul]; norm_num
/-- plus infinity, -/
theorem top_lit : Ideal.ofBits .f32 0x7F800000#32 = ⊤ := by simp [Ideal.ofBits, Ideal.ieee]
/-- minus infinity, -/
theorem bot_lit : Ideal.ofBits .f32 0xFF800000#32 = ⊥ := by simp [Ideal.ofBits, Ideal.ieee]
/-- and the smallest half distance, which is positive. -/
theorem small_lit : ∃ ε : ℝ, 0 < ε ∧ Ideal.ofBits .f32 0x322BCC77#32 = (ε : EReal) := by
  refine ⟨_, ?_, (by simp [Ideal.ofBits, Ideal.ieee, -EReal.coe_mul]; rfl)⟩
  norm_num

/-- A quotient of two numbers. -/
theorem div_real (x : ℝ) {y : ℝ} (h : y ≠ 0) : Ideal.div x y = ((x / y : ℝ) : EReal) := by
  rw [Ideal.div_coe h, ← EReal.coe_mul, mul_one_div]

/-- Finitely many numbers have a largest one, which is what their maximum from minus infinity is, -/
theorem fold_max_real {n : ℕ} [NeZero n] (O : Fin n → ℝ) :
    ∃ M : ℝ, Finset.univ.fold max ⊥ (fun i => (O i : EReal)) = M ∧ ∀ i, O i ≤ M := by
  obtain ⟨i, -, h⟩ := Finset.exists_max_image Finset.univ O ⟨0, Finset.mem_univ _⟩
  refine ⟨O i, le_antisymm ((Finset.fold_max_le _).2 ⟨bot_le, fun j hj => EReal.coe_le_coe_iff.2 (h j hj)⟩)
    ((Finset.le_fold_max _).2 (Or.inr ⟨i, Finset.mem_univ _, le_rfl⟩)), fun j => h j (Finset.mem_univ _)⟩

/-- and a smallest one. -/
theorem fold_min_real {n : ℕ} [NeZero n] (O : Fin n → ℝ) :
    ∃ M : ℝ, Finset.univ.fold min ⊤ (fun i => (O i : EReal)) = M ∧ ∀ i, M ≤ O i := by
  obtain ⟨i, -, h⟩ := Finset.exists_min_image Finset.univ O ⟨0, Finset.mem_univ _⟩
  refine ⟨O i, le_antisymm ((Finset.fold_min_le _).2 (Or.inr ⟨i, Finset.mem_univ _, le_rfl⟩))
    ((Finset.le_fold_min _).2 ⟨le_top, fun j hj => EReal.coe_le_coe_iff.2 (h j hj)⟩), fun j => h j (Finset.mem_univ _)⟩

/-- A sum of numbers is a number. -/
theorem sum_real {n : ℕ} (f : Fin n → ℝ) : ∑ i, (f i : EReal) = ((∑ i, f i : ℝ) : EReal) := by
  induction (Finset.univ : Finset (Fin n)) using Finset.induction_on with
  | empty => simp
  | insert a s ha ih => rw [Finset.sum_insert ha, Finset.sum_insert ha, ih, EReal.coe_add]

/-- The larger of two numbers. -/
theorem max_real (x y : ℝ) : max (x : EReal) y = ((max x y : ℝ) : EReal) := (EReal.coe_strictMono.monotone.map_max).symm

/-- The distance of two numbers, as the larger of their two differences. -/
theorem abs_real (x : ℝ) : max (x : EReal) (-(x : EReal)) = ((|x| : ℝ) : EReal) := by
  rw [← EReal.coe_neg, max_real]; rfl

/-- The kernel's value at an entry of a finite column, with the nearest pole's number `k`. -/
theorem entry_eq {lo hi o M m : ℝ} (b : EReal) (hlo : lo ≤ -1) (hhi : 1 ≤ hi) (hm : m ≤ o) (hM : o ≤ M)
    {ε : ℝ} (hε : 0 < ε) (he : Ideal.ofBits .f32 0x322BCC77#32 = (ε : EReal)) {k : ℕ} (hk : k < 16)
    (hmin : ∀ l : ℕ, l < 16 →
      |(o - (M + m) / 2) / max ((M - m) / 2) ε - Column.pole lo hi k| < |(o - (M + m) / 2) / max ((M - m) / 2) ε - Column.pole lo hi l|
      ∨ |(o - (M + m) / 2) / max ((M - m) / 2) ε - Column.pole lo hi k| = |(o - (M + m) / 2) / max ((M - m) / 2) ε - Column.pole lo hi l|
        ∧ k ≤ l) :
    entry o M m lo hi b = ((Column.pole lo hi k * ((M - m) / 2) + (M + m) / 2 : ℝ) : EReal) + b := by
  have hd : max ((M - m) / 2) ε ≠ 0 := (lt_max_of_lt_right hε).ne'
  have hw : hi - lo ≠ 0 := by linarith
  have ho : offset M m = (((M + m) / 2 : ℝ) : EReal) := by
    rw [offset, half_lit, ← EReal.coe_add, ← EReal.coe_mul, mul_one_div]
  have hr : range M m = (((M - m) / 2 : ℝ) : EReal) := by
    rw [range, half_lit, ← EReal.coe_sub, ← EReal.coe_mul, mul_one_div]
  have hc : recip M m = ((1 / max ((M - m) / 2) ε : ℝ) : EReal) := by
    rw [recip, hr, he, one_lit, max_real, div_real _ hd]
  have hi' : inverse lo hi = ((15 / (hi - lo) : ℝ) : EReal) := by
    rw [inverse, fifteen_lit, ← EReal.coe_sub, div_real _ hw]
  have hz : Ideal.ofBits .f32 0x00000000#32 = ((0 : ℝ) : EReal) := Ideal.ofBits_zero_f32
  rw [entry, ho, hr, hc, hi', half_lit, hz]
  simp only [← EReal.coe_add, ← EReal.coe_mul, ← EReal.coe_sub, Ideal.liftRound_coe, zero_sub]
  rw [Column.index_eq hlo hhi hm hM hε hk hmin, ← add_assoc, ← EReal.coe_add]
  refine congrArg (· + b) (congrArg _ ?_)
  have := Column.result_eq lo hi ((M - m) / 2) ((M + m) / 2) k
  push_cast
  linarith

end Cert.Proof.Block

end
-- ==== Proof.Agree.lean ====
/- Under the facts the precondition gives, the reference's result is the array the kernel stores. -/
module

public import proofs.«01_k».proof.Proof.RefValue
public import proofs.«01_k».proof.Proof.Array
public import proofs.«01_k».proof.Proof.Lift

@[expose] public section

set_option maxRecDepth 16384

noncomputable section

namespace Cert.Proof

open Idealize.ShloMosaic Cert.ReferenceIdeal

/-- What is used of the arguments: the activations and the weight are finite, and the table is sixteen evenly spaced numbers, the
    first at most minus one and the last at least one. -/
structure Facts (x : Vec Ideal S1x2048x2048 .f32) (w : Vec Ideal S2048x2048 .f32) (lut : Vec Ideal S16 .f32) (lo hi : ℝ) : Prop where
  x_real : ∀ i, ∃ r : ℝ, x i = r
  w_real : ∀ i, ∃ r : ℝ, w i = r
  lo_le : lo ≤ -1
  le_hi : 1 ≤ hi
  lut_eq : ∀ k : Fin 16, lut (ix1 k) = ((Column.pole lo hi k : ℝ) : EReal)

/-- A finite product's entries are numbers. -/
theorem product_real {x : Vec Ideal S1x2048x2048 .f32} {w : Vec Ideal S2048x2048 .f32} (hx : ∀ i, ∃ r : ℝ, x i = r)
    (hw : ∀ i, ∃ r : ℝ, w i = r) (j : Fin 2048) : ∃ O : Fin 2048 → ℝ, ∀ i, Block.product x w j i = ((O i : ℝ) : EReal) := by
  choose f hf using hx
  choose g hg using hw
  refine ⟨fun i => ∑ k : Fin 2048, f (ix3 0 i k) * g (ix2 k j), fun i => ?_⟩
  rw [Block.product, ← Block.sum_real]
  exact Finset.sum_congr rfl fun k _ => by rw [hf, hg, EReal.coe_mul]

/-- The reference's result at row `i` and column `j` is the stored array's entry there. -/
theorem agree {x : Vec Ideal S1x2048x2048 .f32} {w : Vec Ideal S2048x2048 .f32} {lut : Vec Ideal S16 .f32} {lo hi : ℝ}
    (h : Facts x w lut lo hi) (b : Vec Ideal S2048 .f32) (i j : Fin 2048) :
    Ref.result x w b lut (ix3 0 i j) = Block.whole x w b lut (ix2 i j) := by
  obtain ⟨O, hO⟩ := product_real h.x_real h.w_real j
  have hO' : Block.product x w j = fun i => ((O i : ℝ) : EReal) := funext hO
  obtain ⟨M, hM, hM'⟩ := Block.fold_max_real O
  obtain ⟨m, hm, hm'⟩ := Block.fold_min_real O
  obtain ⟨ε, hε, he⟩ := Block.small_lit
  have hd : max ((M - m) / 2) ε ≠ 0 := (lt_max_of_lt_right hε).ne'
  have hp : ∀ i, Ref.prod x w (ix2 i j) = ((O i : ℝ) : EReal) := fun i => (Ref.prod_at x w i j).trans (hO i)
  have ht : Ref.top (Ref.prod x w) (ix1 j) = ((M : ℝ) : EReal) := by
    rw [Ref.top_at, ← hM]; exact congrArg (Finset.univ.fold max ⊥ ·) (funext hp)
  have hb : Ref.bottom (Ref.prod x w) (ix1 j) = ((m : ℝ) : EReal) := by
    rw [Ref.bottom_at, ← hm]; exact congrArg (Finset.univ.fold min ⊤ ·) (funext hp)
  obtain ⟨T, hT⟩ : ∃ T, T = Ref.top (Ref.prod x w) := ⟨_, rfl⟩
  obtain ⟨B, hB⟩ : ∃ B, B = Ref.bottom (Ref.prod x w) := ⟨_, rfl⟩
  rw [← hT] at ht
  rw [← hB] at hb
  have hmid : Ref.mid T B (ix2 0 j) = (((M + m) / 2 : ℝ) : EReal) := by
    rw [Ref.mid_at, ht, hb, Block.two_lit, ← EReal.coe_add, Block.div_real _ two_ne_zero]
  have hhalf : Ref.half T B (ix2 0 j) = (((M - m) / 2 : ℝ) : EReal) := by
    rw [Ref.half_at, ht, hb, Block.two_lit, ← EReal.coe_sub, Block.div_real _ two_ne_zero]
  obtain ⟨s, hs⟩ : ∃ s, s = (O i - (M + m) / 2) / max ((M - m) / 2) ε := ⟨_, rfl⟩
  have hscaled : Ref.scaled (Ref.prod x w) (Ref.half T B) (Ref.mid T B) (ix2 i j) = ((s : ℝ) : EReal) := by
    rw [Ref.scaled_at, hp, hmid, hhalf, he, max_comm, Block.max_real, ← EReal.coe_sub, Block.div_real _ hd, hs]
  obtain ⟨S, hS⟩ : ∃ S, S = Ref.scaled (Ref.prod x w) (Ref.half T B) (Ref.mid T B) := ⟨_, rfl⟩
  rw [← hS] at hscaled
  have hq' : (i : ℕ) * 2048 + (j : ℕ) < 4194304 := by omega
  obtain ⟨q, hq⟩ : ∃ q : Fin 4194304, (q : ℕ) = (i : ℕ) * 2048 + j := ⟨⟨_, hq'⟩, rfl⟩
  have hdist : ∀ l : Fin 16, Ref.dist S lut (ix2 l q) = ((|s - Column.pole lo hi l| : ℝ) : EReal) := fun l => by
    rw [Ref.dist_at S lut l i j q hq, hscaled, h.lut_eq, ← EReal.coe_sub, Block.abs_real]
  obtain ⟨k, hk, hmin⟩ := Ref.nearest_at (Ref.dist S lut) q (by rw [hdist]; exact EReal.coe_lt_top _)
  have hmin' : ∀ l : ℕ, l < 16 → |s - Column.pole lo hi k| < |s - Column.pole lo hi l|
      ∨ |s - Column.pole lo hi k| = |s - Column.pole lo hi l| ∧ (k : ℕ) ≤ l := fun l hl => by
    have := hmin ⟨l, hl⟩
    rw [hdist, hdist] at this
    exact_mod_cast this
  have hv : Ref.spread (Ref.pole lut (Ref.nearest (Ref.dist S lut))) (Ref.half T B) (Ref.mid T B) (ix2 i j)
      = ((Column.pole lo hi k * ((M - m) / 2) + (M + m) / 2 : ℝ) : EReal) := by
    rw [Ref.spread_at _ _ _ i j q hq, Ref.pole_at lut _ q k hk, h.lut_eq, hhalf, hmid, ← EReal.coe_mul, ← EReal.coe_add]
  have hquant : Ref.quantised (Ref.prod x w) lut (ix2 i j) = ((Column.pole lo hi k * ((M - m) / 2) + (M + m) / 2 : ℝ) : EReal) := by
    rw [Ref.quantised, ← hT, ← hB, ← hS, Ref.noInf_at, Ref.noInf_at, Ref.noNaN_at, hv]
    · rw [Ref.noNaN_at, hv, Block.top_lit]; exact EReal.coe_ne_top _
    · rw [Ref.noInf_at, Ref.noNaN_at, hv, Block.bot_lit]
      · exact EReal.coe_ne_bot _
      · rw [Ref.noNaN_at, hv, Block.top_lit]; exact EReal.coe_ne_top _
  rw [Ref.result, Ref.biased_at, hquant]
  have hw : Block.whole x w b lut (ix2 i j) = Block.entry (O i : ℝ) (M : ℝ) (m : ℝ) (lo : ℝ) (hi : ℝ) (b (ix1 j)) := by
    show Block.entry (Block.product x w j i) (Finset.univ.fold max ⊥ (Block.product x w j)) (Finset.univ.fold min ⊤ (Block.product x w j))
      (lut (ix1 0)) (lut (ix1 15)) (b (ix1 j)) = _
    have h0 : lut (ix1 0) = ((lo : ℝ) : EReal) := by
      rw [h.lut_eq]; exact congrArg _ (by simp [Column.pole])
    have h15 : lut (ix1 15) = ((hi : ℝ) : EReal) := by
      rw [h.lut_eq]; exact congrArg _ (by simp [Column.pole]; ring)
    rw [hO', hM, hm, h0, h15]
  rw [hw, Block.entry_eq (b (ix1 j)) h.lo_le h.le_hi (hm' i) (hM' i) hε he k.isLt (hs ▸ hmin')]

end Cert.Proof

end
-- ==== Proof.Tame.lean ====
/- What the precondition says of the arguments, in numbers. -/
module

public import proofs.«01_k».proof.Proof.Gen.Pre_tame
public import proofs.«01_k».proof.Proof.Agree
public import Idealize.ShloMosaic.Lib.ReduceAll

@[expose] public section

set_option maxRecDepth 16384

noncomputable section

namespace Cert.Proof

open Idealize.ShloMosaic Cert.Pre_tame

/-- A conjunction over finitely many indices that holds, holds at each. -/
theorem fold_andi {ι : Type} [Fintype ι] {f : ι → BitVec 1} (h : Finset.univ.fold IntOp.andi 1#1 f = 1#1) (k : ι) : f k = 1#1 := by
  classical
  have all : ∀ s : Finset ι, s.fold IntOp.andi 1#1 f = 1#1 → ∀ k ∈ s, f k = 1#1 := fun s => by
    induction s using Finset.induction_on with
    | empty => exact fun _ k hk => absurd hk (Finset.notMem_empty k)
    | insert a s ha ih =>
      intro h k hk
      rw [Finset.fold_insert ha] at h
      obtain ⟨h1, h2⟩ := IntOp.andi_eq_one.1 h
      rcases Finset.mem_insert.1 hk with rfl | hk
      · exact h1
      · exact ih h2 k hk
  exact all _ h k (Finset.mem_univ _)

/-- A comparison that came out true. -/
theorem of_decide {p : Prop} [Decidable p] (h : BitVec.ofBool (decide p) = 1#1) : p := by
  by_contra hp
  simp [hp] at h

/-- An extended real whose absolute value is below infinity is a number. -/
theorem real_of_abs {v : EReal} (h : FloatOps.absf (F := Ideal) (φ := .f32) v < Ideal.ofBits .f32 2139095040#32) : ∃ r : ℝ, v = r := by
  rw [Ideal.absf_def, Block.top_lit] at h
  induction v using EReal.rec with
  | bot => simp at h
  | coe r => exact ⟨r, rfl⟩
  | top => simp at h

/-- The precondition's facts about the arguments. -/
theorem facts_of_tame {x : Vec Ideal S1x2048x2048 .f32} {w : Vec Ideal S2048x2048 .f32} {b : Vec Ideal S2048 .f32} {lut : Vec Ideal S16 .f32}
    (h : fn (F := Ideal) x w b lut = fun _ => 1#1) : ∃ lo hi : ℝ, Facts x w lut lo hi := by
  have hq : ∀ q : Fin 16, fn (F := Ideal) x w b lut (ix1 q) = 1#1 := fun q => congrFun h _
  unfold fn fn_part1 fn_part2 at hq
  pointwise at hq
  simp only [IntOp.andi_eq_one] at hq
  have hx : ∀ i, ∃ r : ℝ, x i = r := fun i => by
    obtain ⟨r, hr⟩ := real_of_abs (of_decide (fold_andi (hq 0).1.2 (⟨(i 0 : Fin 1), (i 1 : Fin 2048), (i 2 : Fin 2048)⟩)))
    exact ⟨r, (congrArg x (eq_ix3 i)).trans hr⟩
  have hw : ∀ i, ∃ r : ℝ, w i = r := fun i => by
    obtain ⟨r, hr⟩ := real_of_abs (of_decide (fold_andi (hq 0).2 (⟨(i 0 : Fin 2048), (i 1 : Fin 2048)⟩)))
    exact ⟨r, (congrArg w (eq_ix2 i)).trans hr⟩
  choose l hl using fun q => real_of_abs (of_decide (hq q).1.1.2)
  refine ⟨l 0, l 15, hx, hw, ?_, ?_, fun k => ?_⟩
  · have := of_decide (hq 0).1.1.1.2.1
    rw [hl, Block.minus_lit] at this
    exact EReal.coe_le_coe_iff.1 this
  · have := of_decide (hq 0).1.1.1.2.2
    rw [hl] at this
    exact EReal.coe_le_coe_iff.1 this
  · have := of_decide (hq k).1.1.1.1
    have hk : FloatOps.sitofp (F := Ideal) FTy.f32 (BitVec.ofNat 32 (k : ℕ)) = (((k : ℕ) : ℝ) : EReal) := by
      have e : (BitVec.ofNat 32 (k : ℕ)).toInt = ((k : ℕ) : ℤ) :=
        (by decide : ∀ k : Fin 16, (BitVec.ofNat 32 (k : ℕ)).toInt = ((k : ℕ) : ℤ)) k
      show (((BitVec.ofNat 32 (k : ℕ)).toInt : ℝ) : EReal) = _
      rw [e, Int.cast_natCast]
    rw [hl, hl, hl, hk, Block.fifteen_lit] at this
    simp only [← EReal.coe_add, ← EReal.coe_mul, ← EReal.coe_sub] at this
    have e := EReal.coe_eq_coe_iff.1 this
    rw [hl]
    refine congrArg _ ?_
    rw [Column.pole]
    linarith

end Cert.Proof

end
-- ==== Proof.lean ====
/- The certificate: the kernel, its exact reading and the reference run and leave their arguments as they were, the kernel and its
   exact reading are one program, and from arguments of the precondition the exact reading and the reference end with equal results. -/
module

public import proofs.«01_k».proof.Defs
public import proofs.«01_k».proof.Proof.Frames
public import proofs.«01_k».proof.Proof.Result
public import proofs.«01_k».proof.Proof.Tame

@[expose] public section

set_option maxRecDepth 16384

noncomputable section

namespace Cert.Proof

open Idealize.ShloMosaic Idealize.SL.Sem

/-- The kernel's exact reading and the reference, from one set of arguments that satisfies the precondition, end with one result. -/
theorem algebraic : Cert.algebraic_KernelIdeal_ReferenceIdeal_pre_tame := by
  intro m g m' g' hpre hagree
  have hv : ∀ c : Dev Cert.KernelIdeal.nD,
      Ref.result (m' ((c.tc : Thread _ _).loc Cert.ReferenceIdeal.main_arg0)) (m' ((c.tc : Thread _ _).loc Cert.ReferenceIdeal.main_arg1))
        (m' ((c.tc : Thread _ _).loc Cert.ReferenceIdeal.main_arg2)) (m' ((c.tc : Thread _ _).loc Cert.ReferenceIdeal.main_arg3))
      = fun i => Block.stored_whole m c (ix2 (i 1) (i 2)) := fun c => by
    obtain ⟨lo, hi, h⟩ := facts_of_tame (hpre c)
    rw [(hagree c).1, (hagree c).2.1, (hagree c).2.2.1, (hagree c).2.2.2]
    funext i
    have e : i = ix3 0 (i 1) (i 2) := by
      have h0 : (i 0 : ℕ) < 1 := (i 0).isLt
      refine (eq_ix3 i).trans (congrArg (fun a => ix3 a (i 1) (i 2)) (Fin.ext ?_))
      show (i 0 : ℕ) = 0
      omega
    exact (congrArg _ e).trans (agree h _ (i 1) (i 2))
  refine ⟨fun c i => Block.stored_whole m c (ix2 (i 1) (i 2)), ?_, ?_⟩
  · refine (θ_run _ _ _).mono (fun _ h c => ⟨?_, ?_, ?_, ?_, ?_⟩) (Cert.KernelIdeal.Gen.run_main m g)
    · exact ((h c).2 Cert.KernelIdeal.main_v0 (Pipeline.mem_restRefs_of Cert.KernelIdeal.main_v0 (by decide) (by decide))).trans
        (funext (Block.result_at m c))
    · exact ((h c).2 Cert.KernelIdeal.main_arg0 (Pipeline.mem_restRefs_of Cert.KernelIdeal.main_arg0 (by decide) (by decide))).trans
        (Cert.KernelIdeal.Gen.W_main_arg0 m _ c)
    · exact ((h c).1 8).trans (((Cert.KernelIdeal.Gen.dats m 0 c).arrAt_in 8 rfl _).trans
        ((Cert.KernelIdeal.Gen.A_eq m c 8).trans (Cert.KernelIdeal.Gen.V_main_arg1 m c)))
    · exact ((h c).2 Cert.KernelIdeal.main_arg2 (Pipeline.mem_restRefs_of Cert.KernelIdeal.main_arg2 (by decide) (by decide))).trans
        (Cert.KernelIdeal.Gen.W_main_arg2 m _ c)
    · exact ((h c).1 10).trans (((Cert.KernelIdeal.Gen.dats m 0 c).arrAt_in 10 rfl _).trans
        ((Cert.KernelIdeal.Gen.A_eq m c 10).trans (Cert.KernelIdeal.Gen.V_main_arg3 m c)))
  · exact (θ_run _ _ _).mono (fun _ h c => ⟨(h c).1.trans (hv c), (h c).2⟩) (Ref.run m' g')

/-- Everything that is claimed. -/
theorem claim : Cert.Claim :=
  ⟨Cert.Kernel.Gen.facts, Cert.KernelIdeal.Gen.facts, Cert.ReferenceIdeal.Gen.facts, Cert.Pre_tame.Gen.facts,
    frame_kernel, frame_ideal, frame_ideal_tame, frame_ref, frame_ref_tame, preserves, algebraic⟩

end Cert.Proof

end
